-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x4096 : Shape := ⟨2, ![2048, 4096]⟩
abbrev S4096x8192 : Shape := ⟨2, ![4096, 8192]⟩
abbrev S2048x8192 : Shape := ⟨2, ![2048, 8192]⟩
abbrev S512x4096 : Shape := ⟨2, ![512, 4096]⟩
abbrev S4096x512 : Shape := ⟨2, ![4096, 512]⟩
abbrev S512x512 : Shape := ⟨2, ![512, 512]⟩
abbrev S2x2048x512 : Shape := ⟨3, ![2, 2048, 512]⟩
abbrev S2 : Shape := ⟨1, ![2]⟩
abbrev S8 : Shape := ⟨1, ![8]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S1x512x512 : Shape := ⟨3, ![1, 512, 512]⟩
abbrev S2048x16384 : Shape := ⟨2, ![2048, 16384]⟩
abbrev S128x8192 : Shape := ⟨2, ![128, 8192]⟩
abbrev S128x16384 : Shape := ⟨2, ![128, 16384]⟩
abbrev S128 : Shape := ⟨1, ![128]⟩
abbrev S128x1 : Shape := ⟨2, ![128, 1]⟩

abbrev nBuf : Space → Nat
  | .hbm => 5
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S2048x8192, .bf16⟩
  | .hbm, ⟨3, _⟩ => ⟨S2048x8192, .bf16⟩
  | .hbm, ⟨4, _⟩ => ⟨S2048x16384, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | .local _ .vmem, ⟨6, _⟩ => ⟨S2x2048x512, .bf16⟩
  | .local _ .vmem, ⟨7, _⟩ => ⟨S128x8192, .bf16⟩
  | .local _ .vmem, ⟨8, _⟩ => ⟨S128x8192, .bf16⟩
  | .local _ .vmem, ⟨9, _⟩ => ⟨S128x8192, .bf16⟩
  | .local _ .vmem, ⟨10, _⟩ => ⟨S128x8192, .bf16⟩
  | .local _ .vmem, ⟨11, _⟩ => ⟨S128x16384, .f32⟩
  | .local _ .vmem, ⟨12, _⟩ => ⟨S128x16384, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev barrier0 : Sem sig := 0

abbrev nD : Nat := 8
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let arg1 : BitVec 32 := BitVec.ofNat 32 (i 1).val
  let c0_i32_8 : BitVec 32 := 0#32
  let v16 : BitVec 1 := Scalar.cmpi .eq arg1 c0_i32_8
  let v17 : BitVec 1 := Scalar.andi v15 v16
  let v18 : BitVec 32 := Scalar.extui v17
  let c0_i32_9 : BitVec 32 := 0#32
  let v19 : BitVec 1 := Scalar.cmpi .ne v18 c0_i32_9
  v19

def k0_dev1 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v47 : BitVec 32 := Scalar.muli v2 c4_i32_23
  let v48 : BitVec 32 := Scalar.addi c0_i32_24 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v49 : BitVec 32 := Scalar.muli v5 c2_i32_25
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_26 : BitVec 32 := 1#32
  let v51 : BitVec 32 := Scalar.muli v9 c1_i32_26
  let v52 : BitVec 32 := Scalar.addi v50 v51
  v52.toNat
def k0_dev2 (d0 : Dev nD) : Nat :=
  let c0_i32_29 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_28 : BitVec 32 := 4#32
  let v53 : BitVec 32 := Scalar.muli v10 c4_i32_28
  let v54 : BitVec 32 := Scalar.addi c0_i32_29 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v55 : BitVec 32 := Scalar.muli v5 c2_i32_30
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v57 : BitVec 32 := Scalar.muli v8 c1_i32_31
  let v58 : BitVec 32 := Scalar.addi v56 v57
  v58.toNat
def k0_cond2 (i : grid0.Coords) (d0 : Dev nD) : BitVec 1 :=
  let arg1 : BitVec 32 := BitVec.ofNat 32 (i 1).val
  let c0_i32_10 : BitVec 32 := 0#32
  let v20 : BitVec 1 := Scalar.cmpi .eq arg1 c0_i32_10
  let arg0 : BitVec 32 := BitVec.ofNat 32 (i 0).val
  let c2_i32_7 : BitVec 32 := 2#32
  let v13 : BitVec 32 := Scalar.remsi arg0 c2_i32_7
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 1 := Scalar.cmpi .eq v13 v2
  let v21 : BitVec 1 := Scalar.andi v20 v14
  let c2_i32_5 : BitVec 32 := 2#32
  let v11 : BitVec 32 := Scalar.divsi arg0 c2_i32_5
  let c2_i32_11 : BitVec 32 := 2#32
  let v22 : BitVec 1 := Scalar.cmpi .sge v11 c2_i32_11
  let v23 : BitVec 1 := Scalar.andi v21 v22
  let v24 : BitVec 32 := Scalar.extui v23
  let c0_i32_12 : BitVec 32 := 0#32
  let v25 : BitVec 1 := Scalar.cmpi .ne v24 c0_i32_12
  v25

def k0_off1 (i : grid0.Coords) : Fin 1 → Nat :=
  let arg0 : BitVec 32 := BitVec.ofNat 32 (i 0).val
  let c2_i32_5 : BitVec 32 := 2#32
  let v11 : BitVec 32 := Scalar.divsi arg0 c2_i32_5
  let c2_i32_6 : BitVec 32 := 2#32
  let v12 : BitVec 32 := Scalar.remsi v11 c2_i32_6
  ![v12.toNat]
def k0_off2 (i : grid0.Coords) : Fin 3 → Nat :=
  let arg0 : BitVec 32 := BitVec.ofNat 32 (i 0).val
  let c2_i32_5 : BitVec 32 := 2#32
  let v11 : BitVec 32 := Scalar.divsi arg0 c2_i32_5
  let c2_i32_6 : BitVec 32 := 2#32
  let v12 : BitVec 32 := Scalar.remsi v11 c2_i32_6
  let c0_i32_23 : BitVec 32 := 0#32
  let c0_i32_24 : BitVec 32 := 0#32
  ![v12.toNat, 0, 0]
def k0_off3 (i : grid0.Coords) : Fin 2 → Nat :=
  let c0_i32_25 : BitVec 32 := 0#32
  let arg0 : BitVec 32 := BitVec.ofNat 32 (i 0).val
  let c512_i32 : BitVec 32 := 512#32
  let v46 : BitVec 32 := Scalar.muli arg0 c512_i32
  ![0, v46.toNat]
def k0_cond3 (i : grid0.Coords) (d0 : Dev nD) : BitVec 1 :=
  let arg0 : BitVec 32 := BitVec.ofNat 32 (i 0).val
  let c2_i32_7 : BitVec 32 := 2#32
  let v13 : BitVec 32 := Scalar.remsi arg0 c2_i32_7
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 1 := Scalar.cmpi .eq v13 v2
  let v35 : BitVec 32 := Scalar.extui v14
  let c0_i32_18 : BitVec 32 := 0#32
  let v36 : BitVec 1 := Scalar.cmpi .ne v35 c0_i32_18
  v36

def k0_off4 (i : grid0.Coords) : Fin 3 → Nat :=
  let arg0 : BitVec 32 := BitVec.ofNat 32 (i 0).val
  let c2_i32_5 : BitVec 32 := 2#32
  let v11 : BitVec 32 := Scalar.divsi arg0 c2_i32_5
  let c2_i32_6 : BitVec 32 := 2#32
  let v12 : BitVec 32 := Scalar.remsi v11 c2_i32_6
  let v47 : Index := Scalar.indexCast v12
  let arg1 : BitVec 32 := BitVec.ofNat 32 (i 1).val
  let c512_i32 : BitVec 32 := 512#32
  let v46 : BitVec 32 := Scalar.muli arg1 c512_i32
  let v48 : Index := Scalar.indexCast v46
  let c0_22 : Index := 0#32
  ![v47.toNat, v48.toNat, 0]
def k0_cond4 (i : grid0.Coords) (d0 : Dev nD) : BitVec 1 :=
  let arg1 : BitVec 32 := BitVec.ofNat 32 (i 1).val
  let c3_i32 : BitVec 32 := 3#32
  let v37 : BitVec 1 := Scalar.cmpi .eq arg1 c3_i32
  let arg0 : BitVec 32 := BitVec.ofNat 32 (i 0).val
  let c2_i32_7 : BitVec 32 := 2#32
  let v13 : BitVec 32 := Scalar.remsi arg0 c2_i32_7
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 1 := Scalar.cmpi .eq v13 v2
  let v38 : BitVec 1 := Scalar.andi v37 v14
  let v39 : BitVec 32 := Scalar.extui v38
  let c0_i32_19 : BitVec 32 := 0#32
  let v40 : BitVec 1 := Scalar.cmpi .ne v39 c0_i32_19
  v40

def k0_off5 (i : grid0.Coords) : Fin 1 → Nat :=
  let arg0 : BitVec 32 := BitVec.ofNat 32 (i 0).val
  let c2_i32_5 : BitVec 32 := 2#32
  let v11 : BitVec 32 := Scalar.divsi arg0 c2_i32_5
  let c2_i32_6 : BitVec 32 := 2#32
  let v12 : BitVec 32 := Scalar.remsi v11 c2_i32_6
  ![v12.toNat]
def k0_off6 (i : grid0.Coords) : Fin 1 → Nat :=
  let arg0 : BitVec 32 := BitVec.ofNat 32 (i 0).val
  let c2_i32_5 : BitVec 32 := 2#32
  let v11 : BitVec 32 := Scalar.divsi arg0 c2_i32_5
  ![v11.toNat]
def k0_off7 (i : grid0.Coords) : Fin 2 → Nat :=
  let c0_i32_26 : BitVec 32 := 0#32
  let arg0 : BitVec 32 := BitVec.ofNat 32 (i 0).val
  let c512_i32 : BitVec 32 := 512#32
  let v46 : BitVec 32 := Scalar.muli arg0 c512_i32
  ![0, v46.toNat]
def k0_off8 (i : grid0.Coords) : Fin 3 → Nat :=
  let arg0 : BitVec 32 := BitVec.ofNat 32 (i 0).val
  let c2_i32_5 : BitVec 32 := 2#32
  let v11 : BitVec 32 := Scalar.divsi arg0 c2_i32_5
  let c2_i32_6 : BitVec 32 := 2#32
  let v12 : BitVec 32 := Scalar.remsi v11 c2_i32_6
  let c0_i32_27 : BitVec 32 := 0#32
  let c0_i32_28 : BitVec 32 := 0#32
  ![v12.toNat, 0, 0]
def k0_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v47 : BitVec 32 := Scalar.muli v2 c4_i32_22
  let v48 : BitVec 32 := Scalar.addi c0_i32_23 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v49 : BitVec 32 := Scalar.muli v5 c2_i32_24
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_25 : BitVec 32 := 1#32
  let v51 : BitVec 32 := Scalar.muli v9 c1_i32_25
  let v52 : BitVec 32 := Scalar.addi v50 v51
  v52.toNat
def k0_cond5 (i : grid0.Coords) : BitVec 1 :=
  let arg0 : BitVec 32 := BitVec.ofNat 32 (i 0).val
  let c2_i32_5 : BitVec 32 := 2#32
  let v11 : BitVec 32 := Scalar.divsi arg0 c2_i32_5
  let c1_i32_29 : BitVec 32 := 1#32
  let v60 : BitVec 1 := Scalar.cmpi .sge v11 c1_i32_29
  let v61 : BitVec 32 := Scalar.extui v60
  let c0_i32_30 : BitVec 32 := 0#32
  let v62 : BitVec 1 := Scalar.cmpi .ne v61 c0_i32_30
  v62

def k0_off9 (i : grid0.Coords) : Fin 1 → Nat :=
  let arg0 : BitVec 32 := BitVec.ofNat 32 (i 0).val
  let c2_i32_5 : BitVec 32 := 2#32
  let v11 : BitVec 32 := Scalar.divsi arg0 c2_i32_5
  let c1_i32_31 : BitVec 32 := 1#32
  let v63 : BitVec 32 := Scalar.subi v11 c1_i32_31
  ![v63.toNat]
def k0_off10 (i : grid0.Coords) : Fin 2 → Nat :=
  let c0_i32_39 : BitVec 32 := 0#32
  let arg0 : BitVec 32 := BitVec.ofNat 32 (i 0).val
  let c2_i32_32 : BitVec 32 := 2#32
  let v64 : BitVec 32 := Scalar.subi arg0 c2_i32_32
  let c512_i32_34 : BitVec 32 := 512#32
  let v66 : BitVec 32 := Scalar.muli v64 c512_i32_34
  ![0, v66.toNat]
def k0_off11 (i : grid0.Coords) : Fin 3 → Nat :=
  let arg0 : BitVec 32 := BitVec.ofNat 32 (i 0).val
  let c2_i32_5 : BitVec 32 := 2#32
  let v11 : BitVec 32 := Scalar.divsi arg0 c2_i32_5
  let c1_i32_31 : BitVec 32 := 1#32
  let v63 : BitVec 32 := Scalar.subi v11 c1_i32_31
  let c2_i32_33 : BitVec 32 := 2#32
  let v65 : BitVec 32 := Scalar.remsi v63 c2_i32_33
  let c0_i32_40 : BitVec 32 := 0#32
  let c0_i32_41 : BitVec 32 := 0#32
  ![v65.toNat, 0, 0]
def k0_cond6 (i : grid0.Coords) : BitVec 1 :=
  let arg0 : BitVec 32 := BitVec.ofNat 32 (i 0).val
  let c2_i32_5 : BitVec 32 := 2#32
  let v11 : BitVec 32 := Scalar.divsi arg0 c2_i32_5
  let c1_i32_31 : BitVec 32 := 1#32
  let v63 : BitVec 32 := Scalar.subi v11 c1_i32_31
  let c2_i32_42 : BitVec 32 := 2#32
  let v78 : BitVec 1 := Scalar.cmpi .sge v63 c2_i32_42
  let v79 : BitVec 32 := Scalar.extui v78
  let c0_i32_43 : BitVec 32 := 0#32
  let v80 : BitVec 1 := Scalar.cmpi .ne v79 c0_i32_43
  v80

def k0_off12 (i : grid0.Coords) : Fin 1 → Nat :=
  let arg0 : BitVec 32 := BitVec.ofNat 32 (i 0).val
  let c2_i32_5 : BitVec 32 := 2#32
  let v11 : BitVec 32 := Scalar.divsi arg0 c2_i32_5
  let c1_i32_31 : BitVec 32 := 1#32
  let v63 : BitVec 32 := Scalar.subi v11 c1_i32_31
  let c2_i32_33 : BitVec 32 := 2#32
  let v65 : BitVec 32 := Scalar.remsi v63 c2_i32_33
  ![v65.toNat]
def k0_off13 (i : grid0.Coords) : Fin 2 → Nat :=
  let c0_i32_55 : BitVec 32 := 0#32
  let arg0 : BitVec 32 := BitVec.ofNat 32 (i 0).val
  let c2_i32_32 : BitVec 32 := 2#32
  let v64 : BitVec 32 := Scalar.subi arg0 c2_i32_32
  let c512_i32_52 : BitVec 32 := 512#32
  let v95 : BitVec 32 := Scalar.muli v64 c512_i32_52
  ![0, v95.toNat]
def k0_off14 (i : grid0.Coords) : Fin 1 → Nat :=
  let arg0 : BitVec 32 := BitVec.ofNat 32 (i 0).val
  let c2_i32_5 : BitVec 32 := 2#32
  let v11 : BitVec 32 := Scalar.divsi arg0 c2_i32_5
  let c1_i32_31 : BitVec 32 := 1#32
  let v63 : BitVec 32 := Scalar.subi v11 c1_i32_31
  let c2_i32_33 : BitVec 32 := 2#32
  let v65 : BitVec 32 := Scalar.remsi v63 c2_i32_33
  ![v65.toNat]
def k0_dev4 (d0 : Dev nD) : Nat :=
  let c0_i32_47 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_46 : BitVec 32 := 4#32
  let v83 : BitVec 32 := Scalar.muli v10 c4_i32_46
  let v84 : BitVec 32 := Scalar.addi c0_i32_47 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v85 : BitVec 32 := Scalar.muli v5 c2_i32_48
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v87 : BitVec 32 := Scalar.muli v8 c1_i32_49
  let v88 : BitVec 32 := Scalar.addi v86 v87
  v88.toNat
def k0_cond7 (i : grid0.Coords) : BitVec 1 :=
  let arg0 : BitVec 32 := BitVec.ofNat 32 (i 0).val
  let c15_i32 : BitVec 32 := 15#32
  let v41 : BitVec 1 := Scalar.cmpi .eq arg0 c15_i32
  let arg1 : BitVec 32 := BitVec.ofNat 32 (i 1).val
  let c3_i32_20 : BitVec 32 := 3#32
  let v42 : BitVec 1 := Scalar.cmpi .eq arg1 c3_i32_20
  let v43 : BitVec 1 := Scalar.andi v41 v42
  let v44 : BitVec 32 := Scalar.extui v43
  let c0_i32_21 : BitVec 32 := 0#32
  let v45 : BitVec 1 := Scalar.cmpi .ne v44 c0_i32_21
  v45

def k0_off15 (d0 : Dev nD) (c14_i32 : BitVec 32) : Fin 2 → Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.addi c14_i32 v2
  let c512_i32 : BitVec 32 := 512#32
  let v47 : BitVec 32 := Scalar.muli v46 c512_i32
  ![0, v47.toNat]
def k0_dev5 (d0 : Dev nD) : Nat :=
  let c0_i32_43 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_42 : BitVec 32 := 4#32
  let v67 : BitVec 32 := Scalar.muli v10 c4_i32_42
  let v68 : BitVec 32 := Scalar.addi c0_i32_43 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v69 : BitVec 32 := Scalar.muli v5 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_off16 (d0 : Dev nD) (c0_i32_78 : BitVec 32) : Fin 2 → Nat :=
  let c0_i32_87 : BitVec 32 := 0#32
  let c1_i32_77 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.subi c1_i32_77 v2
  let v105 : BitVec 32 := Scalar.addi c0_i32_78 v104
  let c512_i32_80 : BitVec 32 := 512#32
  let v107 : BitVec 32 := Scalar.muli v105 c512_i32_80
  ![0, v107.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def k1_cond1 (d0 : Dev nD) : BitVec 1 :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32 : BitVec 32 := 0#32
  let v29 : BitVec 1 := Scalar.cmpi .eq v2 c0_i32
  let v30 : BitVec 32 := Scalar.extui v29
  let c0_i32_6 : BitVec 32 := 0#32
  let v31 : BitVec 1 := Scalar.cmpi .ne v30 c0_i32_6
  v31

def k1_cond2 (d0 : Dev nD) : BitVec 1 :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_7 : BitVec 32 := 1#32
  let v32 : BitVec 1 := Scalar.cmpi .eq v2 c1_i32_7
  let v33 : BitVec 32 := Scalar.extui v32
  let c0_i32_8 : BitVec 32 := 0#32
  let v34 : BitVec 1 := Scalar.cmpi .ne v33 c0_i32_8
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2048x4096 : Shape := ⟨2, ![2048, 4096]⟩
abbrev S4096x16384 : Shape := ⟨2, ![4096, 16384]⟩
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048x16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x16384, .f32⟩
  | .hbm, ⟨7, _⟩ => ⟨S2048x16384, .f32⟩
  | .hbm, ⟨8, _⟩ => ⟨S2048x16384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x16384, .f32⟩
  | .hbm, ⟨13, _⟩ => ⟨S2048x16384, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Mesh.lean ====
module

public import proofs.«01_k».proof.Proof.Gen.KernelIdeal.Skeleton
public import proofs.«01_k».proof.Proof.Gen.KernelIdeal.Launch
public import proofs.«01_k».proof.Proof.Gen.KernelIdeal.Points

@[expose] public section

/-!
# Mesh, blocks and slots

The eight devices are numbered `c = 4 x + 2 y + z`. `zp c` is the neighbour along `z` and `xp c`
the neighbour along `x`. The product has sixteen column blocks of 512 columns; block `j` is sent by
the devices with `x = j % 2`.

This module gives the names used by the rest of the proof: the two neighbours, the column blocks of
the receive buffer, the two slots of the send buffer, the semaphores by number, and what the
conditions and offsets of the first call come to at grid point `t = 4 j + i`.
-/

noncomputable section

namespace Cert.KernelIdeal.Run

open Cert.KernelIdeal Cert.KernelIdeal.Gen
open Idealize.ShloMosaic Idealize.ShloMosaic.TcCoe

/-! ## The two neighbours -/

/-- The neighbour along `z`. -/
def zp (c : Dev nD) : Dev nD :=
  ⟨4 * (c.val / 4) + 2 * (c.val / 2 % 2) + (1 - c.val % 2), by
    have : c.val < 8 := c.isLt
    show _ < 8; omega⟩

/-- The neighbour along `x`. -/
def xp (c : Dev nD) : Dev nD :=
  ⟨4 * (1 - c.val / 4) + c.val % 4, by
    have : c.val < 8 := c.isLt
    show _ < 8; omega⟩

/-- The coordinate along `x`. -/
abbrev xOf (c : Dev nD) : ℕ := c.val / 4

/-- The first coordinate is 0 or 1. -/
theorem xOf_le (c : Dev nD) : xOf c ≤ 1 := by
  have : c.val < 8 := c.isLt
  unfold xOf; omega

/-- The neighbour along `z` of the neighbour along `z` is the device. -/
theorem zp_zp (c : Dev nD) : zp (zp c) = c := by revert c; decide +kernel

/-- The neighbour along `x` of the neighbour along `x` is the device. -/
theorem xp_xp (c : Dev nD) : xp (xp c) = c := by revert c; decide +kernel

/-- The two neighbours may be taken in either order. -/
theorem zp_xp (c : Dev nD) : zp (xp c) = xp (zp c) := by revert c; decide +kernel

/-- The neighbour along `z` has the same first coordinate. -/
theorem xOf_zp (c : Dev nD) : xOf (zp c) = xOf c := by revert c; decide +kernel

/-- The neighbour along `x` has the other first coordinate. -/
theorem xOf_xp (c : Dev nD) : xOf (xp c) = 1 - xOf c := by revert c; decide +kernel

/-- The neighbour along `z` is another device. -/
theorem zp_ne (c : Dev nD) : zp c ≠ c := by revert c; decide +kernel

/-- The neighbour along `x` is another device. -/
theorem xp_ne (c : Dev nD) : xp c ≠ c := by revert c; decide +kernel

/-- The two neighbours are different devices. -/
theorem zp_ne_xp (c : Dev nD) : zp c ≠ xp c := by revert c; decide +kernel

/-- Taking the `z` neighbour permutes the devices. -/
def zEquiv : Dev nD ≃ Dev nD := ⟨zp, zp, zp_zp, zp_zp⟩
/-- Taking the `x` neighbour permutes the devices. -/
def xEquiv : Dev nD ≃ Dev nD := ⟨xp, xp, xp_xp, xp_xp⟩

/-- The first signal goes to the neighbour along `z`. -/
theorem dev1_eq (d : Dev nD) (h : k0_dev1 d < nD) : (⟨k0_dev1 d, h⟩ : Dev nD) = zp d :=
  Fin.ext ((by decide +kernel : ∀ d : Dev nD, k0_dev1 d = (zp d).val) d)

/-- The second signal goes to the neighbour along `x`. -/
theorem dev2_eq (d : Dev nD) (h : k0_dev2 d < nD) : (⟨k0_dev2 d, h⟩ : Dev nD) = xp d :=
  Fin.ext ((by decide +kernel : ∀ d : Dev nD, k0_dev2 d = (xp d).val) d)

/-- A finished block goes to the neighbour along `z`. -/
theorem dev3_eq (d : Dev nD) (h : k0_dev3 d < nD) : (⟨k0_dev3 d, h⟩ : Dev nD) = zp d :=
  Fin.ext ((by decide +kernel : ∀ d : Dev nD, k0_dev3 d = (zp d).val) d)

/-- A received block goes on to the neighbour along `x`. -/
theorem dev4_eq (d : Dev nD) (h : k0_dev4 d < nD) : (⟨k0_dev4 d, h⟩ : Dev nD) = xp d :=
  Fin.ext ((by decide +kernel : ∀ d : Dev nD, k0_dev4 d = (xp d).val) d)

/-- So does the last one. -/
theorem dev5_eq (d : Dev nD) (h : k0_dev5 d < nD) : (⟨k0_dev5 d, h⟩ : Dev nD) = xp d :=
  Fin.ext ((by decide +kernel : ∀ d : Dev nD, k0_dev5 d = (xp d).val) d)

/-! ## Grid points -/

/-- There are 64 points. -/
theorem lt64 (t : Fin grid0.N) : t.val < 64 := lt_of_lt_of_eq t.isLt N_0

/-- The column block of a point. -/
theorem coord0 : ∀ t : Fin grid0.N, (grid0.coords t 0).val = t.val / 4 := by decide +kernel

/-- The row block of a point. -/
theorem coord1 : ∀ t : Fin grid0.N, (grid0.coords t 1).val = t.val % 4 := by decide +kernel

/-- The barrier is passed at the first point. -/
theorem cond1_iff : ∀ t : Fin grid0.N, k0_cond1 (grid0.coords t) = 1#1 ↔ t.val = 0 := by
  decide +kernel

/-- When a slot's earlier copy is waited for. -/
theorem cond2_iff : ∀ (t : Fin grid0.N) (c : Dev nD), k0_cond2 (grid0.coords t) c = 1#1 ↔
    (t.val % 4 = 0 ∧ t.val / 4 % 2 = xOf c ∧ 2 ≤ t.val / 8) := by decide +kernel

/-- When a block is stored for sending. -/
theorem cond3_iff : ∀ (t : Fin grid0.N) (c : Dev nD), k0_cond3 (grid0.coords t) c = 1#1 ↔
    t.val / 4 % 2 = xOf c := by decide +kernel

/-- When a block is sent. -/
theorem cond4_iff : ∀ (t : Fin grid0.N) (c : Dev nD), k0_cond4 (grid0.coords t) c = 1#1 ↔
    (t.val % 4 = 3 ∧ t.val / 4 % 2 = xOf c) := by decide +kernel

/-- When an earlier block is forwarded. -/
theorem cond5_iff : ∀ t : Fin grid0.N, k0_cond5 (grid0.coords t) = 1#1 ↔ 1 ≤ t.val / 8 := by
  decide +kernel

/-- When an earlier forward is waited for. -/
theorem cond6_iff : ∀ t : Fin grid0.N, k0_cond6 (grid0.coords t) = 1#1 ↔ 3 ≤ t.val / 8 := by
  decide +kernel

/-- The last point. -/
theorem cond7_iff : ∀ t : Fin grid0.N, k0_cond7 (grid0.coords t) = 1#1 ↔ t.val = 63 := by
  decide +kernel

/-- The offsets of the copies and waits in the guarded parts, at point `t = 4 j + i` with `k = j / 2`. -/
theorem off9_eq : ∀ t : Fin grid0.N, 1 ≤ t.val / 8 →
    k0_off9 (grid0.coords t) = ![t.val / 8 - 1] := by decide +kernel

/-- Where the forwarded block lies. -/
theorem off10_eq : ∀ t : Fin grid0.N, 1 ≤ t.val / 8 →
    k0_off10 (grid0.coords t) = ![0, 512 * (t.val / 4 - 2)] := by decide +kernel

/-- Which slot the forwarded block's wait names. -/
theorem off11_eq : ∀ t : Fin grid0.N, 1 ≤ t.val / 8 →
    k0_off11 (grid0.coords t) = ![(t.val / 8 - 1) % 2, 0, 0] := by decide +kernel

/-- Which semaphore an earlier forward paid. -/
theorem off12_eq : ∀ t : Fin grid0.N, 3 ≤ t.val / 8 →
    k0_off12 (grid0.coords t) = ![(t.val / 8 - 1) % 2] := by decide +kernel

/-- Which semaphore the forward pays. -/
theorem off14_eq : ∀ t : Fin grid0.N, 1 ≤ t.val / 8 →
    k0_off14 (grid0.coords t) = ![(t.val / 8 - 1) % 2] := by decide +kernel

/-! ## Semaphores by number -/

/-- The copy semaphore with number `n`. -/
def dsem (n : ℕ) : DmaSem sig := ⟨n % 32, Nat.mod_lt _ (by decide)⟩

/-- The two semaphores of the sends. -/
theorem sem_zs (o : Fin 1 → ℕ) (s : ℕ) (hs : s < 2) (ho : o = ![s]) (h) :
    ((cc0_scratch1.slice (Rect.unit o S1.size h)).squeeze S_ squeezes_S1_S_).sem = dsem (6 + s) := by
  subst ho
  match s, hs with
  | 0, _ => revert h; decide +kernel
  | 1, _ => revert h; decide +kernel

/-- The two semaphores of the forwards. -/
theorem sem_fs (o : Fin 1 → ℕ) (s : ℕ) (hs : s < 2) (ho : o = ![s]) (h) :
    ((cc0_scratch2.slice (Rect.unit o S1.size h)).squeeze S_ squeezes_S1_S_).sem = dsem (8 + s) := by
  subst ho
  match s, hs with
  | 0, _ => revert h; decide +kernel
  | 1, _ => revert h; decide +kernel

/-- The eight semaphores of blocks received along `z`. -/
theorem sem_zr (o : Fin 1 → ℕ) (k : ℕ) (hk : k < 8) (ho : o = ![k]) (h) :
    ((cc0_scratch3.slice (Rect.unit o S1.size h)).squeeze S_ squeezes_S1_S_).sem = dsem (10 + k) := by
  subst ho
  match k, hk with
  | 0, _ => revert h; decide +kernel
  | 1, _ => revert h; decide +kernel
  | 2, _ => revert h; decide +kernel
  | 3, _ => revert h; decide +kernel
  | 4, _ => revert h; decide +kernel
  | 5, _ => revert h; decide +kernel
  | 6, _ => revert h; decide +kernel
  | 7, _ => revert h; decide +kernel

/-- The eight semaphores of blocks received along `x`. -/
theorem sem_xr (o : Fin 1 → ℕ) (k : ℕ) (hk : k < 8) (ho : o = ![k]) (h) :
    ((cc0_scratch4.slice (Rect.unit o S1.size h)).squeeze S_ squeezes_S1_S_).sem = dsem (18 + k) := by
  subst ho
  match k, hk with
  | 0, _ => revert h; decide +kernel
  | 1, _ => revert h; decide +kernel
  | 2, _ => revert h; decide +kernel
  | 3, _ => revert h; decide +kernel
  | 4, _ => revert h; decide +kernel
  | 5, _ => revert h; decide +kernel
  | 6, _ => revert h; decide +kernel
  | 7, _ => revert h; decide +kernel

/-! ## Column blocks and slots -/

/-- A column block lies inside the receive array. -/
theorem blk_inb (j : ℕ) : ∀ i, (![0, 512 * (j % 16)] : Fin 2 → ℕ) i + S2048x512.size i ≤ S2048x8192.size i := by
  intro i; fin_cases i
  · show 0 + 2048 ≤ 2048; omega
  · show 512 * (j % 16) + 512 ≤ 8192; omega

/-- Column block `j` of the receive buffer. -/
def blk (j : ℕ) : Memref sig .tc .hbm S2048x512 .bf16 :=
  (Memref.whole main_v1_1 : Memref sig .tc .hbm S2048x8192 .bf16).slice
    (Rect.unit ![0, 512 * (j % 16)] S2048x512.size (blk_inb j))
    (fun _ => rfl)

/-- A slot lies inside the send buffer. -/
theorem slot_inb (s : ℕ) : ∀ i, (![s % 2, 0, 0] : Fin 3 → ℕ) i + S1x2048x512.size i ≤ S2x2048x512.size i := by
  intro i; fin_cases i
  · show s % 2 + 1 ≤ 2; omega
  · show 0 + 2048 ≤ 2048; omega
  · show 0 + 512 ≤ 512; omega

/-- Slot `s` of the send buffer. -/
def slotM (s : ℕ) : Memref sig .tc .vmem S2048x512 .bf16 :=
  ((Memref.whole cc0_scratch0 : Memref sig .tc .vmem S2x2048x512 .bf16).slice
    (Rect.unit ![s % 2, 0, 0] S1x2048x512.size (slot_inb s))
    (fun _ => rfl)).squeeze S2048x512
      squeezes_S1x2048x512_S2048x512

/-- A slice of 512 columns at a multiple of 512 is a block. -/
theorem blk_of (o : Fin 2 → ℕ) (j : ℕ) (hj : j < 16) (ho : o = ![0, 512 * j]) (h) (h') :
    (Memref.whole main_v1_1 : Memref sig .tc .hbm S2048x8192 .bf16).slice
      (Rect.unit o S2048x512.size h) h' = blk j := by
  subst ho
  have e : j = j % 16 := (Nat.mod_eq_of_lt hj).symm
  unfold blk
  congr 2
  rw [← e]

/-- A slice of the send buffer is a slot. -/
theorem slot_of (o : Fin 3 → ℕ) (s : ℕ) (hs : s < 2) (ho : o = ![s, 0, 0]) (h) (h') :
    ((Memref.whole cc0_scratch0 : Memref sig .tc .vmem S2x2048x512 .bf16).slice
      (Rect.unit o S1x2048x512.size h) h').squeeze S2048x512
        squeezes_S1x2048x512_S2048x512 = slotM s := by
  subst ho
  match s, hs with
  | 0, _ => rfl
  | 1, _ => rfl

/-- Slots are named up to parity. -/
theorem slotM_mod (s s' : ℕ) (h : s % 2 = s' % 2) : slotM s = slotM s' := by
  have a : slotM s = slotM (s % 2) := slot_of ![s % 2, 0, 0] (s % 2) (Nat.mod_lt _ (by decide)) rfl _ _
  have b : slotM s' = slotM (s' % 2) := slot_of ![s' % 2, 0, 0] (s' % 2) (Nat.mod_lt _ (by decide)) rfl _ _
  rw [a, b, h]

/-- The numbers from `n` to `N`, the first taken out. -/
theorem ico_succ (n N : ℕ) (h : n < N) : Finset.Ico n N = insert n (Finset.Ico (n + 1) N) := by
  ext a; simp only [Finset.mem_insert, Finset.mem_Ico]; omega

/-- A number is not in the range that starts after it. -/
theorem ico_not_mem (n N : ℕ) : n ∉ Finset.Ico (n + 1) N := by simp only [Finset.mem_Ico]; omega
/-- The numbers from `n` to `N`, the last taken out. -/
theorem ico_last (n N : ℕ) (h : n ≤ N) : Finset.Ico n (N + 1) = insert N (Finset.Ico n N) := by
  ext a; simp only [Finset.mem_insert, Finset.mem_Ico]; omega

/-- A number is not in the range that ends before it. -/
theorem ico_not_mem' (n N : ℕ) : N ∉ Finset.Ico n N := by simp only [Finset.mem_Ico]; omega

end Cert.KernelIdeal.Run
-- ==== Proof.Contents.lean ====
module

public import proofs.«01_k».proof.Proof.Mesh
public import Idealize.ShloMosaic.Lib.Pipeline.ValueKit.Geometry
public import Idealize.ShloMosaic.PureOps

@[expose] public section

/-!
# What the buffers hold

`LOC m c` is the product device `c` computes in the first call, as one function of the index: the
512 × 512 tile at row block `i` and column block `j` is the matrix unit's product of row block `i` of
the device's `x` and column block `j` of the device's `W`, rounded.

`RECV m c` is what the first call leaves in the receive buffer of `c`: column blocks `j` with
`j % 2 = x(c)` come straight from the neighbour along `z`; the others were received by the neighbour
along `x` from ITS `z` neighbour, and forwarded.

The rest relates the send buffer's slots and the receive buffer's blocks, element by element, to
these two functions.
-/

noncomputable section

namespace Cert.KernelIdeal.Run

open Cert.KernelIdeal Cert.KernelIdeal.Gen
open Idealize.ShloMosaic Idealize.ShloMosaic.TcCoe

variable {F : FTy → Type} [FloatOps F]

/-- The index of a matrix at row `a` and column `b`, each taken modulo its extent. -/
def at2 {n₀ n₁ : ℕ} (h₀ : 0 < n₀) (h₁ : 0 < n₁) (a b : ℕ) : (⟨2, ![n₀, n₁]⟩ : Shape).Idx
  | ⟨0, _⟩ => ⟨a % n₀, Nat.mod_lt _ h₀⟩
  | ⟨1, _⟩ => ⟨b % n₁, Nat.mod_lt _ h₁⟩

/-- Two indices of a matrix with the same row and column are equal. -/
theorem idx2_ext {n₀ n₁ : ℕ} {p q : (⟨2, ![n₀, n₁]⟩ : Shape).Idx}
    (h₀ : (p 0).val = (q 0).val) (h₁ : (p 1).val = (q 1).val) : p = q := by
  funext a
  match a with
  | ⟨0, _⟩ => exact Fin.ext h₀
  | ⟨1, _⟩ => exact Fin.ext h₁

/-- The same for three coordinates. -/
theorem idx3_ext {n₀ n₁ n₂ : ℕ} {p q : (⟨3, ![n₀, n₁, n₂]⟩ : Shape).Idx}
    (h₀ : (p 0).val = (q 0).val) (h₁ : (p 1).val = (q 1).val) (h₂ : (p 2).val = (q 2).val) : p = q := by
  funext a
  match a with
  | ⟨0, _⟩ => exact Fin.ext h₀
  | ⟨1, _⟩ => exact Fin.ext h₁
  | ⟨2, _⟩ => exact Fin.ext h₂

section
variable (m : (ℓ : Loc nD τ sig) → Buf (Elt F) ℓ) (c : Dev nD)

/-- Rows `512 i` to `512 i + 511` of the device's `x`. -/
def xblk (i : ℕ) : Vec F S512x4096 .f32 :=
  fun y => (m ((c : Thread nD τ).loc main_arg0) : S2048x4096.Idx → Elt F .f32)
    (at2 (by decide) (by decide) (512 * i + (y 0).val) (y 1).val)

/-- Columns `512 j` to `512 j + 511` of the device's `W`. -/
def wblk (j : ℕ) : Vec F S4096x512 .f32 :=
  fun y => (m ((c : Thread nD τ).loc main_arg1) : S4096x8192.Idx → Elt F .f32)
    (at2 (by decide) (by decide) (y 0).val (512 * j + (y 1).val))

/-- The product of row block `i` and column block `j`, before rounding. -/
def prod (i j : ℕ) : FVec F S512x512 .f32 := k0_pay3 (xblk m c i) (wblk m c j)

/-- The device's product, rounded. -/
def LOC : S2048x8192.Idx → Elt F .bf16 :=
  fun z => k0_pay1 (prod m c ((z 0).val / 512) ((z 1).val / 512))
    (at2 (by decide) (by decide) (z 0).val (z 1).val)

/-- What the first call leaves in the receive buffer. -/
def RECV : S2048x8192.Idx → Elt F .bf16 :=
  fun z => if (z 1).val / 512 % 2 = xOf c then LOC m (zp c) z else LOC m (zp (xp c)) z

end

/-! ## The column blocks of the receive buffer -/

/-- The index of the receive buffer under an index of block `j`. -/
def blkIx (j : ℕ) (y : S2048x512.Idx) : S2048x8192.Idx := (blk j).view.emb y

/-- Its two coordinates. -/
theorem blk_emb (j : ℕ) (y : S2048x512.Idx) :
    (blkIx j y 0).val = (y 0).val ∧
    (blkIx j y 1).val = 512 * (j % 16) + (y 1).val := by
  constructor
  · have := ValueKit.view_emb_slice_whole_unit_val (κ := .tc) main_v1_1 ![0, 512 * (j % 16)] S2048x512.size
      (blk_inb j) y 0
    refine this.trans ?_
    show 0 + (y 0).val = _
    omega
  · exact ValueKit.view_emb_slice_whole_unit_val (κ := .tc) main_v1_1 ![0, 512 * (j % 16)] S2048x512.size
      (blk_inb j) y 1

/-- An index of the receive buffer is in block `j` exactly when its column is. -/
theorem mem_blk (j : ℕ) (z : S2048x8192.Idx) :
    z ∈ (blk j).view.set ↔ (z 1).val / 512 = j % 16 := by
  have h0 : (z 0).val < 2048 := (z 0).isLt
  have e : z ∈ (blk j).view.set ↔ z ∈ (Rect.unit (s := S2048x8192) ![0, 512 * (j % 16)] S2048x512.size (blk_inb j)).set :=
    ValueKit.mem_set_slice_whole_iff (κ := .tc) main_v1_1
      (Rect.unit ![0, 512 * (j % 16)] S2048x512.size (blk_inb j)) z Iff.rfl
  rw [e, Rect.mem_set_unit]
  constructor
  · intro h
    have h1 := h 1
    change 512 * (j % 16) ≤ (z 1).val ∧ (z 1).val < 512 * (j % 16) + 512 at h1
    omega
  · intro h a
    match a with
    | ⟨0, _⟩ => show 0 ≤ (z 0).val ∧ (z 0).val < 0 + 2048; omega
    | ⟨1, _⟩ => show 512 * (j % 16) ≤ (z 1).val ∧ (z 1).val < 512 * (j % 16) + 512; omega

/-! ## The slots of the send buffer -/

/-- The index of the send buffer under an index of slot `s`. -/
def slotIx (s : ℕ) (y : S2048x512.Idx) : S2x2048x512.Idx := (slotM s).view.emb y

/-- Its three coordinates. -/
theorem slot_emb (s : ℕ) (y : S2048x512.Idx) :
    (slotIx s y 0).val = s % 2 ∧
    (slotIx s y 1).val = (y 0).val ∧
    (slotIx s y 2).val = (y 1).val := by
  have e : slotIx s y = ((View.whole (κ := .tc) cc0_scratch0).slice
      (Rect.unit (s := S2x2048x512) ![s % 2, 0, 0] S1x2048x512.size (slot_inb s))).emb
        (Shape.reshapeEquiv (s := S1x2048x512) (s' := S2048x512) (by decide +kernel) y) := rfl
  have r : Shape.reshapeEquiv (s := S1x2048x512) (s' := S2048x512) (by decide +kernel) y
      = Fin.cons (⟨0, Nat.one_pos⟩ : Fin 1) y := Shape.reshapeEquiv_cons_one (n := 2) (d := ![2048, 512]) (by decide +kernel) y
  have k := fun a => ValueKit.view_emb_slice_whole_unit_val (κ := .tc) cc0_scratch0 ![s % 2, 0, 0]
      S1x2048x512.size (slot_inb s) (Fin.cons (⟨0, Nat.one_pos⟩ : Fin 1) y) a
  refine ⟨?_, ?_, ?_⟩
  · rw [e, r]; refine (k 0).trans ?_
    show s % 2 + 0 = _; omega
  · rw [e, r]; refine (k 1).trans ?_
    show 0 + (y 0).val = _; omega
  · rw [e, r]; refine (k 2).trans ?_
    show 0 + (y 1).val = _; omega

/-- An index of the send buffer is in slot `s` exactly when its first coordinate is `s`. -/
theorem mem_slot (s : ℕ) (y : S2x2048x512.Idx) : y ∈ (slotM s).view.set ↔ (y 0).val = s % 2 := by
  have h0 : (y 0).val < 2 := (y 0).isLt
  have h1 : (y 1).val < 2048 := (y 1).isLt
  have h2 : (y 2).val < 512 := (y 2).isLt
  have e : y ∈ (slotM s).view.set ↔ y ∈ (Rect.unit (s := S2x2048x512) ![s % 2, 0, 0] S1x2048x512.size (slot_inb s)).set := by
    have q : (slotM s).view.set = ((View.whole (κ := .tc) cc0_scratch0).slice
        (Rect.unit (s := S2x2048x512) ![s % 2, 0, 0] S1x2048x512.size (slot_inb s))).set := Memref.set_view_squeeze _ squeezes_S1x2048x512_S2048x512
    rw [q]
    exact ValueKit.mem_set_slice_whole_iff (κ := .tc) cc0_scratch0
      (Rect.unit ![s % 2, 0, 0] S1x2048x512.size (slot_inb s)) y Iff.rfl
  rw [e, Rect.mem_set_unit]
  constructor
  · intro h
    have h1 := h 0
    change s % 2 ≤ (y 0).val ∧ (y 0).val < s % 2 + 1 at h1
    omega
  · intro h a
    match a with
    | ⟨0, _⟩ => show s % 2 ≤ (y 0).val ∧ (y 0).val < s % 2 + 1; omega
    | ⟨1, _⟩ => show 0 ≤ (y 1).val ∧ (y 1).val < 0 + 2048; omega
    | ⟨2, _⟩ => show 0 ≤ (y 2).val ∧ (y 2).val < 0 + 512; omega

/-- The rectangle of the send buffer a point writes: 512 rows of one slot. -/
abbrev rowsRect (s i : ℕ) (h : ∀ a, (![s, 512 * i, 0] : Fin 3 → ℕ) a + S1x512x512.size a ≤ S2x2048x512.size a) :
    Rect S2x2048x512 := Rect.unit ![s, 512 * i, 0] S1x512x512.size h

/-- Those rows lie in the slot. -/
theorem rows_subset (s i : ℕ) (hs : s < 2) (h) :
    ((View.whole (κ := .tc) cc0_scratch0).slice (rowsRect s i h)).set ⊆ (slotM s).view.set := by
  intro y hy
  have e := (ValueKit.mem_set_slice_whole_iff (κ := .tc) cc0_scratch0 (rowsRect s i h) y Iff.rfl).mp hy
  rw [Rect.mem_set_unit] at e
  have h1 := e 0
  change s ≤ (y 0).val ∧ (y 0).val < s + 1 at h1
  exact (mem_slot s y).mpr (by omega)

section
variable (m : (ℓ : Loc nD τ sig) → Buf (Elt F) ℓ) (c : Dev nD)

/-- Slot `j / 2 % 2` of the send buffer holds the first `n` rows of column block `j` of the product. -/
def SlotRows (j n : ℕ) (g : S2x2048x512.Idx → Elt F .bf16) : Prop :=
  ∀ (y : S2x2048x512.Idx) (z : S2048x8192.Idx), (y 0).val = j / 2 % 2 → (y 1).val < n →
    (z 0).val = (y 1).val → (z 1).val = 512 * j + (y 2).val → g y = LOC m c z

/-- No rows: nothing is asked. -/
theorem slotRows_zero (j : ℕ) (g) : SlotRows m c j 0 g := fun _ _ _ h => absurd h (Nat.not_lt_zero _)

/-- Writing tile `i` below the first `512 i` rows extends them. -/
theorem slotRows_store (j i : ℕ) (g : S2x2048x512.Idx → Elt F .bf16) (hg : SlotRows m c j (512 * i) g)
    (o : Fin 3 → ℕ) (ho : o = ![j / 2 % 2, 512 * i, 0])
    (h : ∀ a, o a + S1x512x512.size a ≤ S2x2048x512.size a) :
    SlotRows m c j (512 * (i + 1))
      (((View.whole (κ := .tc) cc0_scratch0).slice (Rect.unit (s := S2x2048x512) o S1x512x512.size h)).write (Elt F) g
        (k0_pay2 (prod m c i j)) Finset.univ) := by
  subst ho
  intro y z hy0 hy1 hz0 hz1
  have b2 : (y 2).val < 512 := (y 2).isLt
  by_cases hlt : (y 1).val < 512 * i
  · rw [View.write_of_not_mem]
    · exact hg y z hy0 hlt hz0 hz1
    · intro hm
      have hm : y ∈ ((View.whole (κ := .tc) cc0_scratch0).slice (rowsRect (j / 2 % 2) i h)).set := hm
      have e := (ValueKit.mem_set_slice_whole_iff (κ := .tc) cc0_scratch0 (rowsRect (j / 2 % 2) i h) y Iff.rfl).mp hm
      rw [Rect.mem_set_unit] at e
      have h1 := (e 1).1
      change 512 * i ≤ (y 1).val at h1
      omega
  · obtain ⟨y', hy'⟩ : ∃ y' : S512x512.Idx, y' = at2 (by decide) (by decide) ((y 1).val - 512 * i) (y 2).val := ⟨_, rfl⟩
    have v0 : (y' 0).val = (y 1).val - 512 * i := by
      rw [hy']; show ((y 1).val - 512 * i) % 512 = _; omega
    have v1 : (y' 1).val = (y 2).val := by rw [hy']; show (y 2).val % 512 = _; omega
    have k := fun a => ValueKit.view_emb_slice_whole_unit_val (κ := .tc) cc0_scratch0 ![j / 2 % 2, 512 * i, 0]
      S1x512x512.size h (Fin.cons (⟨0, Nat.one_pos⟩ : Fin 1) y') a
    have e : y = ((View.whole (κ := .tc) cc0_scratch0).slice (rowsRect (j / 2 % 2) i h)).emb
        (Fin.cons (⟨0, Nat.one_pos⟩ : Fin 1) y') := by
      refine idx3_ext ?_ ?_ ?_
      · rw [k 0]; show _ = j / 2 % 2 + 0; omega
      · rw [k 1]; show _ = 512 * i + (y' 0).val; omega
      · rw [k 2]; show _ = 0 + (y' 1).val; omega
    have r := Shape.reshapeEquiv_cons_one (n := 2) (d := ![512, 512]) (by decide +kernel) y'
    have w : k0_pay2 (prod m c i j) (Fin.cons (⟨0, Nat.one_pos⟩ : Fin 1) y') = k0_pay1 (prod m c i j) y' := by
      show k0_pay1 (prod m c i j) (Shape.reshapeEquiv _ _) = _
      refine congrArg (k0_pay1 (prod m c i j)) ?_
      exact (congrArg (Shape.reshapeEquiv (s := S512x512) (s' := S1x512x512) (by decide +kernel)) r.symm).trans
        ((Shape.reshapeEquiv_reshapeEquiv _ _ y').trans (Shape.reshapeEquiv_self _ y'))
    rw [e, View.write_emb_of_mem _ _ (Finset.mem_univ _)]
    show k0_pay2 (prod m c i j) _ = _
    rw [w]
    unfold LOC
    have q0 : (z 0).val / 512 = i := by omega
    have q1 : (z 1).val / 512 = j := by omega
    rw [q0, q1]
    congr 1
    refine idx2_ext ?_ ?_
    · show _ = (z 0).val % 512; omega
    · show _ = (z 1).val % 512; omega

/-- A copy of the finished slot into block `j` of the neighbour's receive buffer leaves the product there. -/
theorem landed_slot (j s : ℕ) (hj : j < 16) (hs : s % 2 = j / 2 % 2) (g : S2x2048x512.Idx → Elt F .bf16) (hg : SlotRows m c j 2048 g)
    (f : S2048x8192.Idx → Elt F .bf16) (z : S2048x8192.Idx) (hz : z ∈ (blk j).view.set) :
    (blk j).view.write (Elt F) f ((slotM s).view.read (Elt F) g) Finset.univ z = LOC m c z := by
  obtain ⟨y, -, rfl⟩ := Finset.mem_map.mp hz
  refine (View.write_emb_of_mem (v := (blk j).view) f _ (Finset.mem_univ y)).trans ?_
  have b := blk_emb j y
  have d := slot_emb s y
  have y0 : (y 0).val < 2048 := (y 0).isLt
  exact hg (slotIx s y) (blkIx j y) (by omega) (by omega) (by omega) (by omega)

/-- A copy of block `j` onto block `j` carries the contents over. -/
theorem landed_blk (j : ℕ) (f g : S2048x8192.Idx → Elt F .bf16) (z : S2048x8192.Idx) (hz : z ∈ (blk j).view.set) :
    (blk j).view.write (Elt F) f ((blk j).view.read (Elt F) g) Finset.univ z = g z := by
  obtain ⟨y, -, rfl⟩ := Finset.mem_map.mp hz
  exact View.write_emb_of_mem (v := (blk j).view) f _ (Finset.mem_univ y)

/-- In a block of the device's own parity the receive buffer holds the `z` neighbour's product. -/
theorem recv_own (j : ℕ) (hj : j < 16) (hp : j % 2 = xOf c) (z : S2048x8192.Idx) (hz : z ∈ (blk j).view.set) :
    LOC m (zp c) z = RECV m c z := by
  rw [mem_blk] at hz
  unfold RECV
  rw [if_pos (by omega)]

/-- In a block of the `x` neighbour's parity the receive buffer holds what that neighbour received. -/
theorem recv_other (j : ℕ) (hj : j < 16) (hp : j % 2 = xOf (xp c)) (z : S2048x8192.Idx) (hz : z ∈ (blk j).view.set) :
    RECV m (xp c) z = RECV m c z := by
  rw [mem_blk] at hz
  have h1 := xOf_le c
  rw [xOf_xp] at hp
  unfold RECV
  rw [xOf_xp, if_pos (by omega), if_neg (by omega)]

end

/-! ## What a copy of one block counts -/

/-- The units a copy of one 2048 × 512 block adds to its semaphore. -/
abbrev N : ℕ := (blk 0).view.dmaCredit

/-- A copy of a block counts something. -/
theorem N_pos : 0 < N := by unfold N; decide +kernel

/-- A copy into a receive block counts `N`. -/
theorem amount_blk (j : ℕ) (d : DmaSem sig) : (blk j).view.amount (.dma d) = N := rfl

/-- A copy out of a send slot counts `N`. -/
theorem amount_slot (s : ℕ) (d : DmaSem sig) : (slotM s).view.amount (.dma d) = N := by
  rfl
end Cert.KernelIdeal.Run
-- ==== Proof.Protocol.lean ====
module

public import proofs.«01_k».proof.Proof.Contents
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Harness.Basic

@[expose] public section

/-!
# The protocol of the first call

Write `x = x(c)`; the column blocks device `c` sends are `j = 2 k + x` for `k = 0, …, 7`, block `k`
going through slot `k % 2` of the send buffer. `N` is what a copy of one block counts.

| semaphore of `c`       | who waits, when                          | who pays, what           | what the wait hands over |
|------------------------|------------------------------------------|--------------------------|--------------------------|
| barrier                | `c`, at the first point, 2 units          | `zp c` and `xp c`, 1 each | from `zp c`: its receive blocks `2 k + x`; from `xp c`: its receive blocks `2 k + x`; any contents |
| `zsend[k % 2]`, round `k / 2` | `c`, before block `k + 2` is started (last two at the end) | `c`'s copy of block `k` to `zp c`, `N` | slot `k % 2` of the send buffer |
| `zrecv[k]`             | `c`, after sending block `k + 1` (the last at the end) | `zp c`'s copy of ITS block `k`, `N` | receive block `2 k + x` at `RECV m c` |
| `fsend[k % 2]`, round `k / 2` | `c`, before forwarding block `k + 2` (last two at the end) | `c`'s forward of block `k` to `xp c`, `N` | receive block `2 k + x` of `c` itself, back |
| `xrecv[k]`             | `c`, at the end                           | `xp c`'s forward of its block `k`, `N` | receive block `2 k + 1 - x` at `RECV m c` |

Levels: the sends' semaphores 0, the barrier 1, `zrecv[k]` is `2 + k`, `xrecv` 20. While `c` waits on
`zrecv[k]` it owes only later `zrecv`s and `xrecv`s; while it waits on `xrecv` it owes nothing.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state beside the pipeline's. -/
abbrev UU : Type := UR sig nD τ × URounds (GSem nD τ sig) Bool

local notation "𝕄" => MT nD τ sig Unit (Elt F) ℕ UU ℕ

/-- Where the calls' pipelines keep their ghost state. -/
abbrev EP : Emb (UR sig nD τ) (MT nD τ sig Unit (Elt F) ℕ UU ℕ) := embL

/-- Where the protocol keeps its ghost state. -/
abbrev ER : Emb (URounds (GSem nD τ sig) Bool) (MT nD τ sig Unit (Elt F) ℕ UU ℕ) := embR

/-! ## Cells -/

/-- Device `c`'s barrier semaphore. -/
abbrev barC (c : Dev nD) : GSem nD τ sig := ((c : Thread nD τ), .reg (sig.barrier 0 rfl))
/-- The semaphore that device `c`'s copy of block `k` to `zp c` leaves counted when it has read its source. -/
abbrev zsC (c : Dev nD) (k : ℕ) : GSem nD τ sig := ((c : Thread nD τ), .dma (dsem (6 + k % 2)))
/-- The same for the forward of block `k` to `xp c`. -/
abbrev fsC (c : Dev nD) (k : ℕ) : GSem nD τ sig := ((c : Thread nD τ), .dma (dsem (8 + k % 2)))
/-- The semaphore device `c` waits on for block `k` from `zp c`. -/
abbrev zrC (c : Dev nD) (k : ℕ) : GSem nD τ sig := ((c : Thread nD τ), .dma (dsem (10 + k % 8)))
/-- The semaphore device `c` waits on for the forward of block `k` from `xp c`. -/
abbrev xrC (c : Dev nD) (k : ℕ) : GSem nD τ sig := ((c : Thread nD τ), .dma (dsem (18 + k % 8)))

/-! ## Pieces of the two buffers -/

/-- The receive buffer of `d`. -/
abbrev recvLoc (d : Dev nD) : Loc nD τ sig := (d : Thread nD τ).loc main_v1_1
/-- The send buffer of `d`. -/
abbrev sendLoc (d : Dev nD) : Loc nD τ sig := (d : Thread nD τ).loc cc0_scratch0

/-- Block `j` of `d`'s receive buffer, at contents not chosen. -/
def blkAny (d : Dev nD) (j : ℕ) : sProp 𝕄 :=
  iprop(∃ f, (blk j).view.loc (d : Thread nD τ) ↦[(blk j).view.set]{fullShare} f)
/-- Slot `s` of `d`'s send buffer, at contents not chosen. -/
def slotAny (d : Dev nD) (s : ℕ) : sProp 𝕄 :=
  iprop(∃ f, (slotM s).view.loc (d : Thread nD τ) ↦[(slotM s).view.set]{fullShare} f)

section
variable (m : (ℓ : Loc nD τ sig) → Buf (Elt F) ℓ)
/-- Block `j` of `d`'s receive buffer at its final contents. -/
def blkAt (d : Dev nD) (j : ℕ) : sProp 𝕄 := (blk j).view.loc (d : Thread nD τ) ↦[(blk j).view.set]{fullShare} RECV m d
/-- Slot `j / 2 % 2` of `d`'s send buffer, its first `n` rows those of column block `j` of the product. -/
def slotRows (d : Dev nD) (j n : ℕ) : sProp 𝕄 :=
  iprop(∃ f, ⌜SlotRows m d j n f⌝ ∗ (slotM (j / 2)).view.loc (d : Thread nD τ) ↦[(slotM (j / 2)).view.set]{fullShare} f)
end

/-- A block with any contents may be a payload. -/
instance (d : Dev nD) (j : ℕ) : BI.Storable (upEmb : UEmb _ 𝕄) (blkAny (F := F) d j) := by
  unfold blkAny; infer_instance

/-- A slot with any contents may be a payload. -/
instance (d : Dev nD) (s : ℕ) : BI.Storable (upEmb : UEmb _ 𝕄) (slotAny (F := F) d s) := by
  unfold slotAny; infer_instance

/-- A block with its final contents may be a payload. -/
instance (m : (ℓ : Loc nD τ sig) → Buf (Elt F) ℓ) (d : Dev nD) (j : ℕ) :
    BI.Storable (upEmb : UEmb _ 𝕄) (blkAt m d j) := by
  have h : ∀ f : Buf (Elt F) ((blk j).view.loc (d : Thread nD τ)), BI.Storable (upEmb : UEmb _ 𝕄)
      ((blk j).view.loc (d : Thread nD τ) ↦[(blk j).view.set]{fullShare} f) := fun f => inferInstance
  exact h (RECV m d)

/-! ## The schedule -/

/-- What device `c` finds at its barrier: from `zp c` (`true`) or `xp c` (`false`), the blocks of that neighbour's
    receive buffer `c` is to write, and that the semaphores to be counted there stand at their first round. -/
def barPay (c : Dev nD) (d : Bool) : sProp 𝕄 :=
  bigSep (Finset.Ico 0 8) fun k =>
    if d then iprop(blkAny (zp c) (2 * k + xOf c) ∗ reached ER (zrC (zp c) k) 0)
    else iprop(blkAny (xp c) (2 * k + xOf c) ∗ reached ER (xrC (xp c) k) 0)

/-- What the copy semaphore with number `n` of device `c` hands over in round `r`. -/
def dmaPay (m : (ℓ : Loc nD τ sig) → Buf (Elt F) ℓ) (c : Dev nD) (n r : ℕ) : sProp 𝕄 :=
  if n < 8 then slotAny c n
  else if n < 10 then blkAt m c (2 * (2 * r + (n - 8)) + xOf c)
  else if n < 18 then blkAt m c (2 * (n - 10) + xOf c)
  else blkAt m c (2 * (n - 18) + xOf (xp c))

/-- What the barrier hands over may be a payload. -/
instance (c : Dev nD) (d : Bool) : BI.Storable (upEmb : UEmb _ 𝕄) (barPay (F := F) c d) := by
  cases d
  · show BI.Storable upEmb (bigSep (Finset.Ico 0 8) fun k =>
      iprop(blkAny (xp c) (2 * k + xOf c) ∗ reached ER (xrC (xp c) k) 0))
    infer_instance
  · show BI.Storable upEmb (bigSep (Finset.Ico 0 8) fun k =>
      iprop(blkAny (zp c) (2 * k + xOf c) ∗ reached ER (zrC (zp c) k) 0))
    infer_instance

/-- What a copy's semaphore hands over may be a payload. -/
instance (m : (ℓ : Loc nD τ sig) → Buf (Elt F) ℓ) (c : Dev nD) (n r : ℕ) :
    BI.Storable (upEmb : UEmb _ 𝕄) (dmaPay m c n r) := by
  unfold dmaPay; (repeat' split) <;> infer_instance

/-- How many rounds the copy semaphore with number `n` has. -/
def rounds (n : ℕ) : ℕ := if n < 6 then 0 else if n < 10 then 4 else if n < 26 then 1 else 0

/-- The schedule of the table above. The barrier's two duties are told apart by a Boolean; the copies' duties are all `true`. -/
def Rd (m : (ℓ : Loc nD τ sig) → Buf (Elt F) ℓ) : Rounds.Schedule (GSem nD τ sig) Bool 𝕄 where
  duties g r := if g.1.2 = .tc then
      (match g.2 with
        | .reg _ => if r = 0 then Finset.univ else ∅
        | .dma d => if r < rounds d.val then {true} else ∅)
    else ∅
  unitless _ := False
  amount g _ _ := match g.2 with | .reg _ => 1 | .dma _ => N
  payload g r d := match g.2 with | .reg _ => barPay g.1.1 d | .dma s => dmaPay m g.1.1 s.val r
  amount_pos g _ _ _ := by
    match g.2 with
    | .reg _ => exact Nat.one_pos
    | .dma _ => exact N_pos

/-- Every payload of the protocol may be one. -/
instance Rd_payload_storable (m : (ℓ : Loc nD τ sig) → Buf (Elt F) ℓ) (g : GSem nD τ sig) (r : ℕ) (d : Bool) :
    BI.Storable (upEmb : UEmb _ 𝕄) ((Rd m).payload g r d) := by
  obtain ⟨t, s⟩ := g
  cases s with
  | reg s => show BI.Storable upEmb (barPay t.1 d); infer_instance
  | dma s => show BI.Storable upEmb (dmaPay m t.1 s.val r); infer_instance

section
variable (m : (ℓ : Loc nD τ sig) → Buf (Elt F) ℓ) (c : Dev nD)

/-- The number of a copy semaphore. -/
theorem dsem_val (n : ℕ) (h : n < 32) : (dsem n : Fin 32).val = n := Nat.mod_eq_of_lt h

/-- Both neighbours pay at the barrier. -/
theorem duties_bar : (Rd m).duties (barC c) 0 = Finset.univ := rfl

/-- A copy semaphore has one duty in each of its rounds. -/
theorem duties_dma (n r : ℕ) (hn : n < 32) :
    (Rd m).duties ((c : Thread nD τ), .dma (dsem n)) r = if r < rounds n then {true} else ∅ := by
  show (if r < rounds (dsem n : Fin 32).val then ({true} : Finset Bool) else ∅) = _
  rw [dsem_val n hn]

/-- A send semaphore has four rounds. -/
theorem rounds_zs (k : ℕ) : rounds (6 + k % 2) = 4 := by unfold rounds; rw [if_neg (by omega), if_pos (by omega)]

/-- A forward semaphore has four rounds. -/
theorem rounds_fs (k : ℕ) : rounds (8 + k % 2) = 4 := by unfold rounds; rw [if_neg (by omega), if_pos (by omega)]

/-- A semaphore of a block received along `z` has one round. -/
theorem rounds_zr (k : ℕ) : rounds (10 + k % 8) = 1 := by
  unfold rounds; rw [if_neg (by omega), if_neg (by omega), if_pos (by omega)]

/-- A semaphore of a block received along `x` has one round. -/
theorem rounds_xr (k : ℕ) : rounds (18 + k % 8) = 1 := by
  unfold rounds; rw [if_neg (by omega), if_neg (by omega), if_pos (by omega)]

/-- The duty of a send semaphore's round. -/
theorem duties_zs (k r : ℕ) (hr : r < 4) : (Rd m).duties (zsC c k) r = {true} := by
  rw [duties_dma _ _ _ _ (by omega), rounds_zs, if_pos hr]

/-- The duty of a forward semaphore's round. -/
theorem duties_fs (k r : ℕ) (hr : r < 4) : (Rd m).duties (fsC c k) r = {true} := by
  rw [duties_dma _ _ _ _ (by omega), rounds_fs, if_pos hr]

/-- The duty of a block received along `z`. -/
theorem duties_zr (k : ℕ) : (Rd m).duties (zrC c k) 0 = {true} := by
  rw [duties_dma _ _ _ _ (by omega), rounds_zr, if_pos (by omega)]

/-- The duty of a block received along `x`. -/
theorem duties_xr (k : ℕ) : (Rd m).duties (xrC c k) 0 = {true} := by
  rw [duties_dma _ _ _ _ (by omega), rounds_xr, if_pos (by omega)]

/-- The barrier has no second round. -/
theorem later_bar : ∀ r, 1 ≤ r → (Rd m).duties (barC c) r = ∅ := fun r hr => if_neg (show ¬ r = 0 by omega)

/-- A send semaphore has no fifth round. -/
theorem later_zs (k : ℕ) : ∀ r, 4 ≤ r → (Rd m).duties (zsC c k) r = ∅ := fun r hr => by
  rw [duties_dma _ _ _ _ (by omega), rounds_zs, if_neg (by omega)]

/-- A forward semaphore has no fifth round. -/
theorem later_fs (k : ℕ) : ∀ r, 4 ≤ r → (Rd m).duties (fsC c k) r = ∅ := fun r hr => by
  rw [duties_dma _ _ _ _ (by omega), rounds_fs, if_neg (by omega)]

/-- A block is received along `z` once. -/
theorem later_zr (k : ℕ) : ∀ r, 1 ≤ r → (Rd m).duties (zrC c k) r = ∅ := fun r hr => by
  rw [duties_dma _ _ _ _ (by omega), rounds_zr, if_neg (by omega)]

/-- A block is received along `x` once. -/
theorem later_xr (k : ℕ) : ∀ r, 1 ≤ r → (Rd m).duties (xrC c k) r = ∅ := fun r hr => by
  rw [duties_dma _ _ _ _ (by omega), rounds_xr, if_neg (by omega)]

/-- A signal counts one. -/
theorem amount_bar (r : ℕ) (d : Bool) : (Rd m).amount (barC c) r d = 1 := rfl

/-- A copy counts `N`. -/
theorem amount_dma (t : Thread nD τ) (s : DmaSem sig) (r : ℕ) (d : Bool) : (Rd m).amount (t, .dma s) r d = N := rfl

/-- The barrier's round counts two. -/
theorem expect_bar : (Rd m).expect (barC c) 0 = 2 := by
  unfold Schedule.expect Schedule.amountOf; rw [duties_bar]; rfl

/-- A round with one copy counts `N`. -/
theorem expect_dma (s : DmaSem sig) (r : ℕ) (h : (Rd m).duties ((c : Thread nD τ), .dma s) r = {true}) :
    (Rd m).expect ((c : Thread nD τ), .dma s) r = N := by
  unfold Schedule.expect Schedule.amountOf; rw [h, Finset.sum_singleton, amount_dma]

/-- What the barrier hands over. -/
theorem payload_bar (r : ℕ) (d : Bool) : (Rd m).payload (barC c) r d = barPay c d := rfl

/-- What a copy's semaphore hands over. -/
theorem payload_dma (n r : ℕ) (hn : n < 32) (d : Bool) :
    (Rd m).payload ((c : Thread nD τ), .dma (dsem n)) r d = dmaPay m c n r := by
  show dmaPay m c (dsem n : Fin 32).val r = _
  rw [dsem_val n hn]

/-- A slot is known by the parity of its block. -/
theorem slotAny_mod (s s' : ℕ) (h : s % 2 = s' % 2) : slotAny (F := F) c s = slotAny c s' := by
  unfold slotAny
  rw [slotM_mod s s' h]

/-- A send's end hands the slot back. -/
theorem payload_zs (k r : ℕ) (d : Bool) : (Rd m).payload (zsC c k) r d = slotAny c k := by
  rw [payload_dma _ _ _ _ (by omega)]; unfold dmaPay; rw [if_pos (by omega)]
  exact slotAny_mod c _ _ (by omega)

/-- A forward's end hands the block back. -/
theorem payload_fs (k : ℕ) (d : Bool) : (Rd m).payload (fsC c k) (k / 2) d = blkAt m c (2 * k + xOf c) := by
  rw [payload_dma _ _ _ _ (by omega)]; unfold dmaPay; rw [if_neg (by omega), if_pos (by omega)]
  congr 2; omega

/-- A block's arrival along `z` hands over the block with its final contents. -/
theorem payload_zr (k r : ℕ) (hk : k < 8) (d : Bool) : (Rd m).payload (zrC c k) r d = blkAt m c (2 * k + xOf c) := by
  rw [payload_dma _ _ _ _ (by omega)]; unfold dmaPay; rw [if_neg (by omega), if_neg (by omega), if_pos (by omega)]
  congr 2; omega

/-- A block's arrival along `x` hands over the block with its final contents. -/
theorem payload_xr (k r : ℕ) (hk : k < 8) (d : Bool) : (Rd m).payload (xrC c k) r d = blkAt m c (2 * k + xOf (xp c)) := by
  rw [payload_dma _ _ _ _ (by omega)]; unfold dmaPay; rw [if_neg (by omega), if_neg (by omega), if_neg (by omega)]
  congr 2; omega

/-- What one wait on a copy's semaphore takes: the one duty's payload. -/
theorem rest_dma (s : DmaSem sig) (r : ℕ) (h : (Rd m).duties ((c : Thread nD τ), .dma s) r = {true}) :
    bigSep ((Rd m).duties ((c : Thread nD τ), .dma s) r \ ∅) (fun d => (Rd m).payload ((c : Thread nD τ), .dma s) r d)
      = (Rd m).payload ((c : Thread nD τ), .dma s) r true := by
  rw [Finset.sdiff_empty, h, bigSep_singleton]

/-- What the barrier's one wait takes: both neighbours' blocks. -/
theorem rest_bar :
    bigSep ((Rd m).duties (barC c) 0 \ ∅) (fun d => (Rd m).payload (barC c) 0 d)
      = iprop(barPay (F := F) c true ∗ barPay c false) := by
  rw [Finset.sdiff_empty, duties_bar, show (Finset.univ : Finset Bool) = insert true {false} from by decide,
    bigSep_insert (by decide), bigSep_singleton]
  rfl

end

/-! ## Levels and what is owed -/

/-- Only the semaphores of the devices' main cores are waited on. -/
def L (g : GSem nD τ sig) : Finset Unit := if g.1.2 = .tc then {()} else ∅

/-- The levels. -/
def lv (g : GSem nD τ sig) (_ : Unit) : ℕ :=
  match g.2 with
  | .reg _ => 1
  | .dma d => if d.val < 10 then 0 else if d.val < 18 then d.val - 8 else if d.val < 26 then 20 else 0

/-- No other core's semaphore is. -/
theorem L_of_ne (g : GSem nD τ sig) (h : g.1.2 ≠ .tc) : L g = ∅ := if_neg h

/-- A main core's semaphore is. -/
theorem L_tc (c : Dev nD) (sm : SemLoc sig) : L ((c : Thread nD τ), sm) = {()} := if_pos rfl

/-- The levels of the copy semaphores. -/
theorem lv_dma (c : Dev nD) (n : ℕ) (hn : n < 32) : lv ((c : Thread nD τ), .dma (dsem n)) () =
    if n < 10 then 0 else if n < 18 then n - 8 else if n < 26 then 20 else 0 := by
  show (if (dsem n : Fin 32).val < 10 then 0 else if (dsem n : Fin 32).val < 18 then (dsem n : Fin 32).val - 8 else
    if (dsem n : Fin 32).val < 26 then 20 else 0) = _
  rw [dsem_val n hn]

/-- A send semaphore has level 0. -/
theorem lv_zs (c : Dev nD) (k : ℕ) : lv (zsC c k) () = 0 := by rw [lv_dma _ _ (by omega), if_pos (by omega)]

/-- A forward semaphore has level 0. -/
theorem lv_fs (c : Dev nD) (k : ℕ) : lv (fsC c k) () = 0 := by rw [lv_dma _ _ (by omega), if_pos (by omega)]

/-- The semaphore of block `k` received along `z` has level `2 + k`. -/
theorem lv_zr (c : Dev nD) (k : ℕ) (hk : k < 8) : lv (zrC c k) () = 2 + k := by
  rw [lv_dma _ _ (by omega), if_neg (by omega), if_pos (by omega)]; omega

/-- A semaphore of a block received along `x` has level 20. -/
theorem lv_xr (c : Dev nD) (k : ℕ) : lv (xrC c k) () = 20 := by
  rw [lv_dma _ _ (by omega), if_neg (by omega), if_neg (by omega), if_pos (by omega)]

/-- What `c` still owes once it has sent `n` blocks and forwarded `f`. -/
def owed (c : Dev nD) (n f : ℕ) : CellTallies nD τ sig Unit :=
  (∑ k ∈ Finset.Ico n 8, tallyAt (zrC (zp c) k) () N) + ∑ k ∈ Finset.Ico f 8, tallyAt (xrC (xp c) k) () N

/-- What `c` owes at launch: besides, a unit to each neighbour's barrier. -/
def O₀ (c : Dev nD) : CellTallies nD τ sig Unit :=
  (owed c 0 0 + tallyAt (barC (xp c)) () 1) + tallyAt (barC (zp c)) () 1

/-- Sending a block pays one debt. -/
theorem owed_send (c : Dev nD) (n f : ℕ) (h : n < 8) : owed c n f = owed c (n + 1) f + tallyAt (zrC (zp c) n) () N := by
  unfold owed
  rw [ico_succ n 8 h, Finset.sum_insert (ico_not_mem n 8), add_comm (tallyAt _ _ _), add_right_comm]

/-- Forwarding a block pays one debt. -/
theorem owed_forward (c : Dev nD) (n f : ℕ) (h : f < 8) : owed c n f = owed c n (f + 1) + tallyAt (xrC (xp c) f) () N := by
  unfold owed
  rw [ico_succ f 8 h, Finset.sum_insert (ico_not_mem f 8), add_comm (tallyAt _ _ _), ← add_assoc]

/-- When all is sent and forwarded nothing is owed. -/
theorem owed_done (c : Dev nD) : owed c 8 8 = 0 := by
  unfold owed; rw [Finset.Ico_self, Finset.sum_empty, Finset.sum_empty, add_zero]

/-- Anything still owed is to a `zrecv` not yet sent to or to an `xrecv` not yet forwarded to. -/
theorem owed_pos (c : Dev nD) (n f : ℕ) (g : GSem nD τ sig) (u : Unit) (h : 0 < owed c n f g u) :
    (∃ k, n ≤ k ∧ k < 8 ∧ g = zrC (zp c) k) ∨ ∃ k, f ≤ k ∧ k < 8 ∧ g = xrC (xp c) k := by
  have aux : ∀ (n : ℕ) (e : ℕ → GSem nD τ sig), 0 < (∑ k ∈ Finset.Ico n 8, tallyAt (e k) () N : CellTallies nD τ sig Unit) g u →
      ∃ k, n ≤ k ∧ k < 8 ∧ g = e k := by
    intro n e hp
    by_contra hne
    push Not at hne
    rw [Finset.sum_apply, Finsupp.finsetSum_apply, Finset.sum_eq_zero] at hp
    · exact absurd hp (Nat.lt_irrefl 0)
    · intro k hk
      rw [Finset.mem_Ico] at hk
      rw [tallyAt_apply, if_neg (fun e => hne k hk.1 hk.2 e.1)]
  unfold owed at h
  rw [Pi.add_apply, Finsupp.add_apply] at h
  rcases Nat.eq_zero_or_pos ((∑ k ∈ Finset.Ico n 8, tallyAt (zrC (zp c) k) () N : CellTallies nD τ sig Unit) g u) with h0 | h1
  · rw [h0, zero_add] at h
    exact .inr (aux f _ h)
  · exact .inl (aux n _ h1)

/-- A wait below everything owed is allowed. -/
theorem mayWait (c : Dev nD) (sm : SemLoc sig) (n f b : ℕ) (hb : lv ((c : Thread nD τ), sm) () ≤ b)
    (hn : n < 8 → b < 2 + n) (hf : f < 8 → b < 20) :
    (levAts L lv : sProp 𝕄) ⊢ MayWait (c : Thread nD τ) sm () (owed c n f) :=
  MayOwe.of_cut (L := L) (lev := lv) b
    (fun p hp => by rw [Finset.mem_singleton.mp hp, L_tc]; exact Finset.mem_singleton_self _)
    (fun g u hg => by
      rcases owed_pos c n f g u hg with ⟨k, _, _, rfl⟩ | ⟨k, _, _, rfl⟩ <;>
      · rw [L_tc]; exact Finset.mem_singleton_self _)
    (fun p hp => by rw [Finset.mem_singleton.mp hp]; exact hb)
    (fun g u hg => by
      rcases owed_pos c n f g u hg with ⟨k, h1, h2, rfl⟩ | ⟨k, h1, h2, rfl⟩
      · have := lv_zr (zp c) k h2
        have h3 := hn (by omega)
        show b < lv _ ()
        omega
      · have := lv_xr (xp c) k
        have h3 := hf (by omega)
        show b < lv _ ()
        omega)

end Cert.KernelIdeal.Run
-- ==== Proof.Steps.lean ====
module

public import proofs.«01_k».proof.Proof.Protocol

@[expose] public section

/-!
# The single steps of the first call

One lemma per kind of step: a copy of a finished slot to the `z` neighbour, a forward of a received
block to the `x` neighbour, a wait on a copy's semaphore, the barrier.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the kernel needs a measure. -/
abbrev 𝒱₀ : Variants := Variants.none

/-! ## The cells' invariants, all of them, known to every device -/

/-- The cells by device and number: the barrier, then the copy semaphores 6 to 25. -/
def cellIx (p : Dev nD × Fin 21) : GSem nD τ sig :=
  if p.2.val = 0 then barC p.1 else ((p.1 : Thread nD τ), .dma (dsem (5 + p.2.val)))

/-- A device's first semaphore is the barrier. -/
theorem cellIx_bar (c : Dev nD) : cellIx (c, ⟨0, by decide⟩) = barC c := if_pos rfl

/-- A device's others are its copy semaphores. -/
theorem cellIx_dma (c : Dev nD) (n : ℕ) (h0 : n ≠ 0) (hn : n < 21) :
    cellIx (c, ⟨n, hn⟩) = ((c : Thread nD τ), .dma (dsem (5 + n))) := if_neg h0

variable (m : (ℓ : Loc nD τ sig) → Buf (Elt F) ℓ)

/-- Every cell's invariant, at the names `K` they were made at. -/
def cellInvs (K : GSem nD τ sig → ℕ) : sProp 𝕄 :=
  bigSep (Finset.univ : Finset (Dev nD × Fin 21)) fun p => cellInv ER (Rd m) (K (cellIx p)) (cellIx p)

/-- The invariants stay true. -/
instance cellInvs_persistent (K : GSem nD τ sig → ℕ) : BI.Persistent (cellInvs m K) := by
  unfold cellInvs; infer_instance

/-- One semaphore's invariant out of all. -/
theorem cellInvs_get (K : GSem nD τ sig → ℕ) (p : Dev nD × Fin 21) :
    cellInvs m K ⊢ cellInv ER (Rd m) (K (cellIx p)) (cellIx p) := by
  unfold cellInvs
  refine (Entails.of_eq (bigSep_erase (Finset.mem_univ p))).trans ?_
  show iprop(cellInv ER (Rd m) (K (cellIx p)) (cellIx p) ∗ bigSep _ _) ⊢ _
  iintro ⟨H, -⟩
  iexact H

/-- The barrier's invariant. -/
theorem inv_bar (K : GSem nD τ sig → ℕ) (c : Dev nD) : cellInvs m K ⊢ cellInv ER (Rd m) (K (barC c)) (barC c) := by
  have h := cellInvs_get m K (c, ⟨0, by decide⟩)
  rwa [cellIx_bar] at h

/-- A copy semaphore's invariant. -/
theorem inv_dma (K : GSem nD τ sig → ℕ) (c : Dev nD) (n : ℕ) (h6 : 6 ≤ n) (h26 : n < 26) :
    cellInvs m K ⊢ cellInv ER (Rd m) (K ((c : Thread nD τ), .dma (dsem n))) ((c : Thread nD τ), .dma (dsem n)) := by
  have h := cellInvs_get m K (c, ⟨n - 5, by omega⟩)
  rw [cellIx_dma c (n - 5) (by omega) (by omega), show 5 + (n - 5) = n by omega] at h
  exact h

/-- A send semaphore's invariant. -/
theorem inv_zs (K : GSem nD τ sig → ℕ) (c : Dev nD) (k : ℕ) : cellInvs m K ⊢ cellInv ER (Rd m) (K (zsC c k)) (zsC c k) :=
  inv_dma m K c _ (by omega) (by omega)

/-- A forward semaphore's invariant. -/
theorem inv_fs (K : GSem nD τ sig → ℕ) (c : Dev nD) (k : ℕ) : cellInvs m K ⊢ cellInv ER (Rd m) (K (fsC c k)) (fsC c k) :=
  inv_dma m K c _ (by omega) (by omega)

/-- The invariant of a block received along `z`. -/
theorem inv_zr (K : GSem nD τ sig → ℕ) (c : Dev nD) (k : ℕ) : cellInvs m K ⊢ cellInv ER (Rd m) (K (zrC c k)) (zrC c k) :=
  inv_dma m K c _ (by omega) (by omega)

/-- The invariant of a block received along `x`. -/
theorem inv_xr (K : GSem nD τ sig → ℕ) (c : Dev nD) (k : ℕ) : cellInvs m K ⊢ cellInv ER (Rd m) (K (xrC c k)) (xrC c k) :=
  inv_dma m K c _ (by omega) (by omega)

/-! ## Steps -/

/-- What device `c` owes, whatever waits are recorded. -/
def owing (c : Dev nD) (O : CellTallies nD τ sig Unit) : sProp 𝕄 := iprop(∃ W, owes (c : Thread nD τ) O W)

/-- A step run from what it needs, the rest kept for what follows. -/
theorem step {c : Dev nD} {e : Prog (TpuEff nD τ sig (Elt F) Λ₀ .tc) PUnit} {P Q : sProp 𝕄} {Φ : PUnit → sProp 𝕄}
    (h : P ⊢ wp frame (wpE (defs₀ (F := F)) 𝒱₀ c none) Set.univ e fun _ => Q) :
    P ⊢ iprop((Q -∗ Φ ⟨⟩) -∗ wp frame (wpE (defs₀ (F := F)) 𝒱₀ c none) Set.univ e Φ) := by
  refine h.trans ((wp_wand _ _ _).trans (wand_mono_left ?_))
  iintro H %a Hq
  iapply H
  iexact Hq

/-- A wait of one copy's count, on a copy's semaphore with one duty in the round. -/
theorem wait_step (K : GSem nD τ sig → ℕ) (c : Dev nD) {s : DmaSem sig} (s₀ : ℕ) (hs : s = dsem s₀) (h6 : 6 ≤ s₀) (h26 : s₀ < 26)
    {sp sp' : Space} {κ' : Kind} {e' : EltTy} {s' : Shape}
    {src : Memref sig .tc sp' s' e'} {dst : Memref sig κ' sp S2048x512 .bf16} {p q}
    (hN : dst.view.dmaCredit = N)
    (r n f b : ℕ) (hr : r < rounds s₀) (hb : lv ((c : Thread nD τ), .dma (dsem s₀)) () ≤ b) (hn : n < 8 → b < 2 + n) (hf : f < 8 → b < 20) :
    iprop(cellInvs m K ∗ levAts L lv ∗ cred (tallyAt ((c : Thread nD τ), .dma (dsem s₀)) () N) ∗ owing c (owed c n f)
        ∗ atPos ER ((c : Thread nD τ), .dma (dsem s₀)) r ∅ 0)
      ⊢ wp frame (wpE (defs₀ (F := F)) 𝒱₀ c none) Set.univ (Prog.lift (.waitDma2 s src dst p q)) fun _ =>
        iprop(owing c (owed c n f) ∗ atPos ER ((c : Thread nD τ), .dma (dsem s₀)) (r + 1) ∅ 0
          ∗ reached ER ((c : Thread nD τ), .dma (dsem s₀)) (r + 1)
          ∗ (Rd m).payload ((c : Thread nD τ), .dma (dsem s₀)) r true) := by
  subst hs
  have hd : (Rd m).duties ((c : Thread nD τ), .dma (dsem s₀)) r = {true} := by
    rw [duties_dma _ _ _ _ (by omega), if_pos hr]
  unfold owing
  iintro ⟨#Hinv, #Hlev, Hc, ⟨%W, HO⟩, Hat⟩
  iapply (Rounds.wp_wait_rest_token 𝒱₀ ER (Rd m) (c : Thread nD τ) none (κ := K ((c : Thread nD τ), .dma (dsem s₀)))
      (wpE_waitDma2_eq (src := src) (dst := dst) 𝒱₀ (c : Thread nD τ) none Set.univ) (Set.mem_univ _) () (O := owed c n f) (W := W) (R := r)
      (m := 0) (T := ∅) ((Nat.zero_add _).trans (hN.trans (expect_dma m c _ r hd).symm))) $$ [Hc HO Hat]
  · isplitr; · iapply (inv_dma m K c s₀ h6 h26); iexact Hinv
    isplitl [Hc]; · rw [hN]; iexact Hc
    isplitl [HO]; · iexact HO
    isplitr; · iapply (mayWait c (.dma (dsem s₀)) n f b hb hn hf); iexact Hlev
    iexact Hat
  iintro ⟨HO, Hat, Hr, Hpay⟩
  ihave Hp := (Entails.of_eq (rest_dma m c (dsem s₀) r hd)) $$ Hpay
  rw [wp_ret]
  imodintro
  isplitl [HO]; · iexists _; iexact HO
  isplitl [Hat]; · iexact Hat
  isplitl [Hr]; · iexact Hr
  iexact Hp

/-- Slot `k % 2` of the send buffer, its first `n` rows those of block `2 k + x(d)` of the product. -/
def slotK (d : Dev nD) (k n : ℕ) : sProp 𝕄 :=
  iprop(∃ f, ⌜SlotRows m d (2 * k + xOf d) n f⌝ ∗ (slotM k).view.loc (d : Thread nD τ) ↦[(slotM k).view.set]{fullShare} f)

/-- What the copy of block `k` needs: the right to count at both ends, the neighbour's block. -/
def sendTok (c : Dev nD) (k : ℕ) : sProp 𝕄 :=
  iprop(dutyTok ER (zsC c k) (k / 2) true ∗ dutyTok ER (zrC (zp c) k) 0 true)

/-- Where block `k` is sent to, ready to take it. -/
def sendDst (c : Dev nD) (k : ℕ) : sProp 𝕄 :=
  iprop(blkAny (zp c) (2 * k + xOf c) ∗ reached ER (zrC (zp c) k) 0)

/-- The duties that forwarding block `k` fulfils. -/
def fwdTok (c : Dev nD) (k : ℕ) : sProp 𝕄 :=
  iprop(dutyTok ER (fsC c k) (k / 2) true ∗ dutyTok ER (xrC (xp c) k) 0 true)

/-- Where block `k` is forwarded to, ready to take it. -/
def fwdDst (c : Dev nD) (k : ℕ) : sProp 𝕄 :=
  iprop(blkAny (xp c) (2 * k + xOf c) ∗ reached ER (xrC (xp c) k) 0)

/-- The copy of the finished block `k` to the `z` neighbour. -/
theorem send_step (K : GSem nD τ sig → ℕ) (c : Dev nD) (k f : ℕ) (hk : k < 8)
    {d : Dev nD} {src : Memref sig .tc .vmem S2048x512 .bf16} {dst : Memref sig .tc .hbm S2048x512 .bf16} {sS sR : DmaSem sig}
    {hsc h1 h2 h3}
    (hd : d = zp c) (hsrc : src = slotM k) (hdst : dst = blk (2 * k + xOf c)) (hS : sS = dsem (6 + k % 2)) (hR : sR = dsem (10 + k % 8)) :
    iprop(cellInvs m K ∗ sendTok c k ∗ sendDst c k ∗ reached ER (zsC c k) (k / 2) ∗ slotK m c k 2048 ∗ owing c (owed c k f))
      ⊢ wp frame (wpE (defs₀ (F := F)) 𝒱₀ c none) Set.univ
          (Prog.lift (.enqueueDma src (.remote (Dev.tc d) dst (.dma sS) hsc) (.dma sR) h1 h2 h3)) fun _ =>
        iprop(cred (tallyAt (zsC c k) () N) ∗ owing c (owed c (k + 1) f)) := by
  subst hd hsrc hdst hS hR
  have hx := xOf_le c
  unfold owing sendTok sendDst slotK
  unfold blkAny
  iintro ⟨#Hinv, ⟨HtS, HtR⟩, ⟨⟨%fd, Hdst⟩, #Hr⟩, #HrS, ⟨%g, %hg, Hsrc⟩, ⟨%W, HO⟩⟩
  iapply (Rounds.wp_send_pointsTo 𝒱₀ ER (Rd m) (c : Thread nD τ) none (c' := (zp c : Thread nD τ)) (src := slotM k) (dst := blk (2 * k + xOf c))
      (sS := .dma (dsem (6 + k % 2))) (sem := .dma (dsem (10 + k % 8))) (q := fullShare) (fs := g) (fd := fd)
      (κ₁ := K (zsC c k)) (κ₂ := K (zrC (zp c) k)) (r₁ := k / 2) (r₂ := 0) (d₁ := true) (d₂ := true)
      (by rw [duties_zs m c k _ (by omega)]; exact Finset.mem_singleton_self _)
      (by rw [duties_zr]; exact Finset.mem_singleton_self _)
      () () N rfl rfl rfl (owed c (k + 1) f) (owed_send c k f hk) (W := W)
      (by rw [payload_zs]; unfold slotAny; iintro H; iexists _; iexact H)
      (by
        rw [payload_zr m (zp c) k 0 hk, xOf_zp]
        unfold blkAt
        refine Entails.of_eq (pointsTo_congr fun z hz => ?_)
        refine (landed_slot m c (2 * k + xOf c) k (by omega) (by omega) g hg fd z hz).trans ?_
        have := recv_own m (zp c) (2 * k + xOf c) (by omega) (by rw [xOf_zp]; omega) z hz
        rwa [zp_zp] at this)) $$ [Hsrc Hdst HO HtS HtR]
  · isplitr; · iapply (inv_zs m K c k); iexact Hinv
    isplitr; · iapply (inv_zr m K (zp c) k); iexact Hinv
    isplitl [Hsrc]; · iexact Hsrc
    isplitl [Hdst]; · iexact Hdst
    isplitl [HO]; · iexact HO
    isplitl [HtS]; · iexact HtS
    isplitr; · iexact HrS
    isplitl [HtR]; · iexact HtR
    iexact Hr
  iintro ⟨Hc, HO⟩
  rw [wp_ret]
  imodintro
  isplitl [Hc]; · iexact Hc
  iexists _; iexact HO

/-- The forward of the received block `k` to the `x` neighbour. -/
theorem fwd_step (K : GSem nD τ sig → ℕ) (c : Dev nD) (n k : ℕ) (hk : k < 8)
    {d : Dev nD} {src : Memref sig .tc .hbm S2048x512 .bf16} {dst : Memref sig .tc .hbm S2048x512 .bf16} {sS sR : DmaSem sig}
    {hsc h1 h2 h3}
    (hd : d = xp c) (hsrc : src = blk (2 * k + xOf c)) (hdst : dst = blk (2 * k + xOf c)) (hS : sS = dsem (8 + k % 2))
    (hR : sR = dsem (18 + k % 8)) :
    iprop(cellInvs m K ∗ fwdTok c k ∗ fwdDst c k ∗ reached ER (fsC c k) (k / 2) ∗ blkAt m c (2 * k + xOf c) ∗ owing c (owed c n k))
      ⊢ wp frame (wpE (defs₀ (F := F)) 𝒱₀ c none) Set.univ
          (Prog.lift (.enqueueDma src (.remote (Dev.tc d) dst (.dma sS) hsc) (.dma sR) h1 h2 h3)) fun _ =>
        iprop(cred (tallyAt (fsC c k) () N) ∗ owing c (owed c n (k + 1))) := by
  subst hd hsrc hdst hS hR
  have hx := xOf_le c
  unfold owing fwdTok fwdDst
  unfold blkAny
  iintro ⟨#Hinv, ⟨HtS, HtR⟩, ⟨⟨%fd, Hdst⟩, #Hr⟩, #HrS, Hsrc, ⟨%W, HO⟩⟩
  iapply (Rounds.wp_send_pointsTo 𝒱₀ ER (Rd m) (c : Thread nD τ) none (c' := (xp c : Thread nD τ)) (src := blk (2 * k + xOf c)) (dst := blk (2 * k + xOf c))
      (sS := .dma (dsem (8 + k % 2))) (sem := .dma (dsem (18 + k % 8))) (q := fullShare) (fs := RECV m c) (fd := fd)
      (κ₁ := K (fsC c k)) (κ₂ := K (xrC (xp c) k)) (r₁ := k / 2) (r₂ := 0) (d₁ := true) (d₂ := true)
      (by rw [duties_fs m c k _ (by omega)]; exact Finset.mem_singleton_self _)
      (by rw [duties_xr]; exact Finset.mem_singleton_self _)
      () () N rfl rfl rfl (owed c n (k + 1)) (owed_forward c n k hk) (W := W)
      (by rw [payload_fs]; unfold blkAt; exact BI.Entails.refl _)
      (by
        rw [payload_xr m (xp c) k 0 hk, xp_xp]
        unfold blkAt
        refine Entails.of_eq (pointsTo_congr fun z hz => ?_)
        refine (landed_blk (2 * k + xOf c) fd (RECV m c) z hz).trans ?_
        have := recv_other m (xp c) (2 * k + xOf c) (by omega) (by rw [xp_xp]; omega) z hz
        rwa [xp_xp] at this)) $$ [Hsrc Hdst HO HtS HtR]
  · isplitr; · iapply (inv_fs m K c k); iexact Hinv
    isplitr; · iapply (inv_xr m K (xp c) k); iexact Hinv
    isplitl [Hsrc]; · unfold blkAt; iexact Hsrc
    isplitl [Hdst]; · iexact Hdst
    isplitl [HO]; · iexact HO
    isplitl [HtS]; · iexact HtS
    isplitr; · iexact HrS
    isplitl [HtR]; · iexact HtR
    iexact Hr
  iintro ⟨Hc, HO⟩
  rw [wp_ret]
  imodintro
  isplitl [Hc]; · iexact Hc
  iexists _; iexact HO

/-- The unit to the `z` neighbour's barrier: it hands over the blocks of `c` that neighbour is to write. -/
theorem signal_z (K : GSem nD τ sig → ℕ) (c : Dev nD) {d : Dev nD} (hd : d = zp c) :
    iprop(cellInvs m K ∗ dutyTok ER (barC (zp c)) 0 true ∗ reached ER (barC (zp c)) 0 ∗ barPay (zp c) true
        ∗ owing c (O₀ c))
      ⊢ wp frame (wpE (defs₀ (F := F)) 𝒱₀ c none) Set.univ
          (semSignalWord d (SemArray.scalar (sig.barrier 0 rfl) : Sems sig S_).sem 1#32) fun _ =>
        owing c (owed c 0 0 + tallyAt (barC (xp c)) () 1) := by
  subst hd
  unfold owing semSignalWord
  iintro ⟨#Hinv, Ht, #Hr, Hpay, ⟨%W, HO⟩⟩
  iapply (Rounds.wp_signal 𝒱₀ ER (Rd m) (c : Thread nD τ) none (dst := (zp c : Thread nD τ)) (sem := sig.barrier 0 rfl) (r := 0) (d := true)
      (κ := K (barC (zp c))) (by rw [duties_bar]; exact Finset.mem_univ _) rfl () (owed c 0 0 + tallyAt (barC (xp c)) () 1) rfl)
    $$ [HO Ht Hpay]
  · isplitr; · iapply (inv_bar m K (zp c)); iexact Hinv
    isplitl [HO]; · iexact HO
    isplitl [Ht]; · iexact Ht
    isplitl [Hpay]; · rw [payload_bar]; iexact Hpay
    iexact Hr
  iintro HO
  rw [wp_ret]
  imodintro
  iexists _; iexact HO

/-- The unit to the `x` neighbour's barrier. -/
theorem signal_x (K : GSem nD τ sig → ℕ) (c : Dev nD) {d : Dev nD} (hd : d = xp c) :
    iprop(cellInvs m K ∗ dutyTok ER (barC (xp c)) 0 false ∗ reached ER (barC (xp c)) 0 ∗ barPay (xp c) false
        ∗ owing c (owed c 0 0 + tallyAt (barC (xp c)) () 1))
      ⊢ wp frame (wpE (defs₀ (F := F)) 𝒱₀ c none) Set.univ
          (semSignalWord d (SemArray.scalar (sig.barrier 0 rfl) : Sems sig S_).sem 1#32) fun _ =>
        owing c (owed c 0 0) := by
  subst hd
  unfold owing semSignalWord
  iintro ⟨#Hinv, Ht, #Hr, Hpay, ⟨%W, HO⟩⟩
  iapply (Rounds.wp_signal 𝒱₀ ER (Rd m) (c : Thread nD τ) none (dst := (xp c : Thread nD τ)) (sem := sig.barrier 0 rfl) (r := 0) (d := false)
      (κ := K (barC (xp c))) (by rw [duties_bar]; exact Finset.mem_univ _) rfl () (owed c 0 0) rfl)
    $$ [HO Ht Hpay]
  · isplitr; · iapply (inv_bar m K (xp c)); iexact Hinv
    isplitl [HO]; · iexact HO
    isplitl [Ht]; · iexact Ht
    isplitl [Hpay]; · rw [payload_bar]; iexact Hpay
    iexact Hr
  iintro HO
  rw [wp_ret]
  imodintro
  iexists _; iexact HO

/-- The wait at the barrier: both neighbours' blocks. -/
theorem wait_bar (K : GSem nD τ sig → ℕ) (c : Dev nD) :
    iprop(cellInvs m K ∗ levAts L lv ∗ cred (tallyAt (barC c) () 2) ∗ owing c (owed c 0 0) ∗ atPos ER (barC c) 0 ∅ 0)
      ⊢ wp frame (wpE (defs₀ (F := F)) 𝒱₀ c none) Set.univ
          (semWaitWord (SemArray.scalar (sig.barrier 0 rfl) : Sems sig S_).sem 2#32) fun _ =>
        iprop(owing c (owed c 0 0) ∗ atPos ER (barC c) 1 ∅ 0 ∗ barPay c true ∗ barPay c false) := by
  unfold owing semWaitWord
  iintro ⟨#Hinv, #Hlev, Hc, ⟨%W, HO⟩, Hat⟩
  iapply (Rounds.wp_wait_rest_token 𝒱₀ ER (Rd m) (c : Thread nD τ) none (κ := K (barC c))
      (wpE_semWait_eq 𝒱₀ (c : Thread nD τ) none Set.univ) (Set.mem_univ _) () (O := owed c 0 0) (W := W) (R := 0) (m := 0) (T := ∅)
      ((Nat.zero_add 2).trans (expect_bar m c).symm)) $$ [Hc HO Hat]
  · isplitr; · iapply (inv_bar m K c); iexact Hinv
    isplitl [Hc]; · iexact Hc
    isplitl [HO]; · iexact HO
    isplitr; · iapply (mayWait c (.reg (sig.barrier 0 rfl)) 0 0 1 (Nat.le_refl 1) (fun _ => by decide) (fun _ => by decide)); iexact Hlev
    iexact Hat
  iintro ⟨HO, Hat, -, Hpay⟩
  ihave Hp := (Entails.of_eq (rest_bar m c)) $$ Hpay
  rw [wp_ret]
  imodintro
  isplitl [HO]; · iexists _; iexact HO
  isplitl [Hat]; · iexact Hat
  iexact Hp

/-- A cell with all its rounds over gives its counter back at zero. -/
theorem close_dma (K : GSem nD τ sig → ℕ) (c : Dev nD) (n r : ℕ) (h6 : 6 ≤ n) (h26 : n < 26) (hr : rounds n ≤ r) :
    iprop(cellInvs m K ∗ atPos ER ((c : Thread nD τ), .dma (dsem n)) r ∅ 0)
      ⊢ (|={Set.univ}=> semVal ((c : Thread nD τ), .dma (dsem n)) 0 : sProp 𝕄) := by
  refine (sep_mono_left (inv_dma m K c n h6 h26)).trans ?_
  exact Rounds.cell_close ER (Rd m) (Set.mem_univ _) id (fun r' hr' => by
    rw [duties_dma _ _ _ _ (by omega), if_neg (by omega)])

/-- The barrier, its round over, is at zero again. -/
theorem close_bar (K : GSem nD τ sig → ℕ) (c : Dev nD) :
    iprop(cellInvs m K ∗ atPos ER (barC c) 1 ∅ 0) ⊢ (|={Set.univ}=> semVal (barC c) 0 : sProp 𝕄) := by
  refine (sep_mono_left (inv_bar m K c)).trans ?_
  exact Rounds.cell_close ER (Rd m) (Set.mem_univ _) id (later_bar m c)

end Cert.KernelIdeal.Run
-- ==== Proof.Windows.lean ====
module

public import proofs.«01_k».proof.Proof.Steps

@[expose] public section

/-!
# Loads and stores of whole staging buffers, and of the send buffer
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A load whose value goes on: the value, and what the load leaves. -/
theorem stepV {c : Dev nD} {α : Type} {e : Prog (TpuEff nD τ sig (Elt F) Λ₀ .tc) α} {P : sProp 𝕄} {Q : α → sProp 𝕄} {Φ : α → sProp 𝕄}
    (h : P ⊢ wp frame (wpE (defs₀ (F := F)) 𝒱₀ c none) Set.univ e Q) :
    P ⊢ iprop((∀ a, Q a -∗ Φ a) -∗ wp frame (wpE (defs₀ (F := F)) 𝒱₀ c none) Set.univ e Φ) :=
  h.trans (wp_wand _ _ _)

/-- The rectangle of all of a matrix places each index at itself. -/
theorem whole_emb {a b : ℕ} (o : Fin 2 → ℕ) (ho : o = ![0, 0]) (h) (x : (⟨2, ![a, b]⟩ : Shape).Idx) :
    (Rect.unit (s := ⟨2, ![a, b]⟩) o ![a, b] h).emb x = x := by
  subst ho
  refine idx2_ext ?_ ?_
  · refine (ValueKit.rect_emb_unit_val (s := ⟨2, ![a, b]⟩) ![0, 0] ![a, b] h x 0).trans ?_
    show 0 + (x 0).val = _; omega
  · refine (ValueKit.rect_emb_unit_val (s := ⟨2, ![a, b]⟩) ![0, 0] ![a, b] h x 1).trans ?_
    show 0 + (x 1).val = _; omega

/-- A load of all of a matrix held at `X` gives `X`. -/
theorem load_owns {c : Dev nD} {a b : ℕ} {cs : CoreSpace} {e : EltTy} (M : Memref sig .tc cs ⟨2, ![a, b]⟩ e) (q : PosShare TreeShare)
    (X : (⟨2, ![a, b]⟩ : Shape).Idx → Elt F e) {o : Fin 2 → ℕ} (ho : o = ![0, 0]) {h} {hl} :
    (owns (c : Thread nD τ) M q X : sProp 𝕄)
      ⊢ wp frame (wpE (defs₀ (F := F)) 𝒱₀ c none) Set.univ
          (Prog.lift (.load M (Rect.unit (s := ⟨2, ![a, b]⟩) o ![a, b] h).toLoadRect hl)) fun v =>
        iprop(⌜v = X⌝ ∗ owns (c : Thread nD τ) M q X) := by
  unfold owns
  iintro ⟨%f, %hf, H⟩
  iapply (wp_load_rect 𝒱₀ (c : Thread nD τ) none Set.univ (m := M) (r := Rect.unit (s := ⟨2, ![a, b]⟩) o ![a, b] h) (q := q) (f := f)
    (S := M.view.set) (View.set_slice_subset _ _)) $$ H
  iintro H
  rw [wp_ret]
  imodintro
  isplitr
  · ipureintro
    funext x
    refine Eq.trans ?_ (congrFun hf x)
    show _root_.cast _ (f (M.view.emb ((Rect.unit (s := ⟨2, ![a, b]⟩) o ![a, b] h).emb x))) = _root_.cast _ (f (M.view.emb x))
    rw [whole_emb o ho h x]
  · iexists f
    isplitr
    · ipureintro; exact hf
    · iexact H

/-- A store of all of a matrix leaves it at what was stored. -/
theorem store_owns {c : Dev nD} {a b : ℕ} {cs : CoreSpace} {e : EltTy} (M : Memref sig .tc cs ⟨2, ![a, b]⟩ e)
    (X : (⟨2, ![a, b]⟩ : Shape).Idx → Elt F e) {o : Fin 2 → ℕ} (ho : o = ![0, 0]) {h} (w : (⟨2, ![a, b]⟩ : Shape).Idx → Elt F e) {hx hm} :
    (owns (c : Thread nD τ) M fullShare X : sProp 𝕄)
      ⊢ wp frame (wpE (defs₀ (F := F)) 𝒱₀ c none) Set.univ
          (Prog.lift (.store M (Rect.unit (s := ⟨2, ![a, b]⟩) o ![a, b] h) w Finset.univ hx hm)) fun _ =>
        owns (c : Thread nD τ) M fullShare w := by
  unfold owns
  iintro ⟨%f, %hf, H⟩
  iapply (wp_store 𝒱₀ (c : Thread nD τ) none Set.univ (m := M) (r := Rect.unit (s := ⟨2, ![a, b]⟩) o ![a, b] h) (w := w) (Mk := Finset.univ)
    (f := f) (S := M.view.set) (View.set_slice_subset _ _)) $$ H
  iintro H
  rw [wp_ret]
  imodintro
  iexists _
  isplitr
  rotate_left
  · iexact H
  · ipureintro
    funext x
    have e1 := whole_emb (a := a) (b := b) o ho h x
    have e2 := View.read_write_of_mem (v := M.access (Rect.unit (s := ⟨2, ![a, b]⟩) o ![a, b] h)) f w (M := Finset.univ) (Finset.mem_univ x)
    refine Eq.trans ?_ e2
    rw [View.read_apply, View.read_apply]
    show _root_.cast _ (View.write (Elt F) (M.access (Rect.unit (s := ⟨2, ![a, b]⟩) o ![a, b] h)) f w Finset.univ (M.view.emb x))
      = _root_.cast _ (View.write (Elt F) (M.access (Rect.unit (s := ⟨2, ![a, b]⟩) o ![a, b] h)) f w Finset.univ (M.view.emb ((Rect.unit (s := ⟨2, ![a, b]⟩) o ![a, b] h).emb x)))
    rw [e1]

end Cert.KernelIdeal.Run
-- ==== Proof.State.lean ====
module

public import proofs.«01_k».proof.Proof.Windows

@[expose] public section

/-!
# What a device holds during the first call

The state is told by six counts: `n` blocks sent to the `z` neighbour, `w` of those sends waited for,
`r` received blocks waited for, `mm` of them forwarded to the `x` neighbour, `f` of those forwards
waited for, `x` blocks received from the `x` neighbour waited for. Each wait and each copy moves one
of the counts by one.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Runs of numbers, one taken off or put on -/

/-- The first of a range, taken off. -/
theorem ico_take (P : ℕ → sProp 𝕄) (n N : ℕ) (h : n < N) :
    bigSep (Finset.Ico n N) P ⊢ iprop(P n ∗ bigSep (Finset.Ico (n + 1) N) P) := by
  rw [ico_succ n N h]
  exact Entails.of_eq (bigSep_insert (ico_not_mem n N))

/-- One more put at the end of a range. -/
theorem ico_put (P : ℕ → sProp 𝕄) (n N : ℕ) (h : n ≤ N) :
    iprop(bigSep (Finset.Ico n N) P ∗ P N) ⊢ bigSep (Finset.Ico n (N + 1)) P := by
  rw [ico_last n N h]
  refine BI.Entails.trans ?_ (Entails.of_eq (bigSep_insert (ico_not_mem' n N)).symm)
  exact BI.sep_comm

/-- An empty range holds of nothing. -/
theorem ico_none (P : ℕ → sProp 𝕄) (n : ℕ) : ⊢ bigSep (Finset.Ico n n) P := by
  rw [Finset.Ico_self]
  exact Entails.of_eq bigSep_empty.symm

/-! ## Positions -/

/-- Cell `g` at the start of round `r`, with the knowledge that it got there. -/
def posAt (g : GSem nD τ sig) (r : ℕ) : sProp 𝕄 := iprop(atPos ER g r ∅ 0 ∗ reached ER g r)

/-- The two cells that take turns, after `w` waits in all. -/
def Pos (cell : ℕ → GSem nD τ sig) (w : ℕ) : sProp 𝕄 := iprop(posAt (cell 0) ((w + 1) / 2) ∗ posAt (cell 1) (w / 2))

/-- A send semaphore is known by the parity of its block. -/
theorem zsC_mod (c : Dev nD) (k : ℕ) : zsC c k = zsC c (k % 2) := by
  show ((c : Thread nD τ), SemLoc.dma (dsem (6 + k % 2))) = ((c : Thread nD τ), SemLoc.dma (dsem (6 + k % 2 % 2)))
  rw [Nat.mod_mod]

/-- A forward semaphore is known by the parity of its block. -/
theorem fsC_mod (c : Dev nD) (k : ℕ) : fsC c k = fsC c (k % 2) := by
  show ((c : Thread nD τ), SemLoc.dma (dsem (8 + k % 2))) = ((c : Thread nD τ), SemLoc.dma (dsem (8 + k % 2 % 2)))
  rw [Nat.mod_mod]

/-- The cell whose turn it is: its position, and the pair again once it has moved on a round. -/
theorem Pos_turn (cell : ℕ → GSem nD τ sig) (hc : ∀ k, cell k = cell (k % 2)) (w : ℕ) :
    (Pos cell w : sProp 𝕄) ⊢ iprop(posAt (cell w) (w / 2) ∗ (posAt (cell w) (w / 2 + 1) -∗ Pos cell (w + 1))) := by
  unfold Pos
  rw [hc w]
  rcases Nat.mod_two_eq_zero_or_one w with h | h
  · rw [h, show (w + 1) / 2 = w / 2 by omega, show (w + 1 + 1) / 2 = w / 2 + 1 by omega]
    iintro ⟨H0, H1⟩
    isplitl [H0]; · iexact H0
    iintro H0
    isplitl [H0]; · iexact H0
    iexact H1
  · rw [h, show (w + 1) / 2 = w / 2 + 1 by omega, show (w + 1 + 1) / 2 = w / 2 + 1 by omega]
    iintro ⟨H0, H1⟩
    isplitl [H1]; · iexact H1
    iintro H1
    isplitl [H0]; · iexact H0
    iexact H1

/-- With `w` waits over, the copy number `w`, or the one after it, may count: its cell got to its round. -/
theorem Pos_reached (cell : ℕ → GSem nD τ sig) (hc : ∀ k, cell k = cell (k % 2)) (w k : ℕ) (h1 : w ≤ k) (h2 : k ≤ w + 1) :
    (Pos cell w : sProp 𝕄) ⊢ iprop(reached ER (cell k) (k / 2) ∗ Pos cell w) := by
  unfold Pos posAt
  rw [hc k]
  rcases Nat.mod_two_eq_zero_or_one k with h | h
  · rw [h, show k / 2 = (w + 1) / 2 by omega]
    iintro ⟨⟨H0, #R0⟩, H1⟩
    isplitr; · iexact R0
    isplitl [H0]; · isplitl [H0]; · iexact H0
                    iexact R0
    iexact H1
  · rw [h, show k / 2 = w / 2 by omega]
    iintro ⟨H0, ⟨H1, #R1⟩⟩
    isplitr; · iexact R1
    isplitl [H0]; · iexact H0
    isplitl [H1]; · iexact H1
    iexact R1

/-! ## The state -/

/-- Every block of 2048 × 512 counts the same. -/
theorem credit {sp : Space} (dst : Memref sig .tc sp S2048x512 .bf16) : dst.view.dmaCredit = N := rfl

variable (m : (ℓ : Loc nD τ sig) → Buf (Elt F) ℓ)

/-- A copy semaphore with one round, still to be waited on: its position and the wait's credit. -/
def todo (g : GSem nD τ sig) : sProp 𝕄 := iprop(atPos ER g 0 ∅ 0 ∗ cred (tallyAt g () N))

/-- What device `c` holds at the counts `n`, `w`, `r`, `mm`, `f`, `x`, the send buffer's free slots apart. -/
def Core (c : Dev nD) (n w r mm f x : ℕ) : sProp 𝕄 :=
  iprop((bigSep (Finset.Ico n 8) fun k => iprop(sendTok c k ∗ sendDst c k))
    ∗ (bigSep (Finset.Ico mm 8) fun k => iprop(fwdTok c k ∗ fwdDst c k))
    ∗ (bigSep (Finset.Ico r 8) fun k => todo (zrC c k))
    ∗ (bigSep (Finset.Ico 0 r) fun k => atPos ER (zrC c k) 1 ∅ 0)
    ∗ (bigSep (Finset.Ico mm r) fun k => blkAt m c (2 * k + xOf c))
    ∗ Pos (zsC c) w ∗ Pos (fsC c) f
    ∗ (bigSep (Finset.Ico w n) fun k => cred (tallyAt (zsC c k) () N))
    ∗ (bigSep (Finset.Ico f mm) fun k => cred (tallyAt (fsC c k) () N))
    ∗ (bigSep (Finset.Ico 0 f) fun k => blkAt m c (2 * k + xOf c))
    ∗ (bigSep (Finset.Ico x 8) fun k => todo (xrC c k))
    ∗ (bigSep (Finset.Ico 0 x) fun k => atPos ER (xrC c k) 1 ∅ 0)
    ∗ (bigSep (Finset.Ico 0 x) fun k => blkAt m c (2 * k + xOf (xp c)))
    ∗ owing c (owed c n mm))

/-- What every device knows throughout: the cells' invariants and the levels. -/
def Know (K : GSem nD τ sig → ℕ) : sProp 𝕄 := iprop(cellInvs m K ∗ levAts L lv)

/-- What all devices know stays true. -/
instance Know_persistent (K : GSem nD τ sig → ℕ) : BI.Persistent (Know m K) := by
  unfold Know; infer_instance

variable (K : GSem nD τ sig → ℕ) (c : Dev nD)

/-- Block `n` is sent. -/
theorem core_send (n w r mm f x : ℕ) (hn : n < 8) (h1 : w ≤ n) (h2 : n ≤ w + 1)
    {d : Dev nD} {src : Memref sig .tc .vmem S2048x512 .bf16} {dst : Memref sig .tc .hbm S2048x512 .bf16} {sS sR : DmaSem sig}
    {hsc p1 p2 p3}
    (hd : d = zp c) (hsrc : src = slotM n) (hdst : dst = blk (2 * n + xOf c)) (hS : sS = dsem (6 + n % 2)) (hR : sR = dsem (10 + n % 8)) :
    iprop(Know m K ∗ slotK m c n 2048 ∗ Core m c n w r mm f x)
      ⊢ wp frame (wpE (defs₀ (F := F)) 𝒱₀ c none) Set.univ
          (Prog.lift (.enqueueDma src (.remote (Dev.tc d) dst (.dma sS) hsc) (.dma sR) p1 p2 p3)) fun _ =>
        Core m c (n + 1) w r mm f x := by
  unfold Core Know
  iintro ⟨⟨#Hinv, -⟩, Hslot, Hsend, Hfwd, Hzr, Hzd, Hheld, Hzs, Hfs, Hcz, Hcf, Hown, Hxr, Hxd, Hgot, HO⟩
  ihave Hsend := (ico_take (fun k => iprop(sendTok (F := F) c k ∗ sendDst c k)) n 8 hn) $$ Hsend
  icases Hsend with ⟨⟨Ht, Hd⟩, Hsend⟩
  ihave Hzs := (Pos_reached (zsC c) (zsC_mod c) w n h1 h2) $$ Hzs
  icases Hzs with ⟨Hr, Hzs⟩
  iapply (step (send_step m K c n mm hn hd hsrc hdst hS hR)) $$ [Ht Hd Hr Hslot HO]
  · isplitr; · iexact Hinv
    isplitl [Ht]; · iexact Ht
    isplitl [Hd]; · iexact Hd
    isplitl [Hr]; · iexact Hr
    isplitl [Hslot]; · iexact Hslot
    iexact HO
  iintro ⟨Hc, HO⟩
  ihave Hcz := (ico_put (fun k => cred (tallyAt (zsC c k) () N)) w n h1) $$ [Hcz Hc]
  · isplitl [Hcz]; · iexact Hcz
    iexact Hc
  iframe

/-- The send of block `w` is waited for: its slot is free again. -/
theorem core_zs (n w r mm f x : ℕ) (hw : w < n) (hn : n ≤ 8)
    {sp sp' : Space} {e' : EltTy} {s' : Shape}
    {s : DmaSem sig} {src : Memref sig .tc sp' s' e'} {dst : Memref sig .tc sp S2048x512 .bf16} {p q}
    (hs : s = dsem (6 + w % 2)) :
    iprop(Know m K ∗ Core m c n w r mm f x)
      ⊢ wp frame (wpE (defs₀ (F := F)) 𝒱₀ c none) Set.univ (Prog.lift (.waitDma2 s src dst p q)) fun _ =>
        iprop(slotAny c w ∗ Core m c n (w + 1) r mm f x) := by
  unfold Core Know
  iintro ⟨⟨#Hinv, #Hlev⟩, Hsend, Hfwd, Hzr, Hzd, Hheld, Hzs, Hfs, Hcz, Hcf, Hown, Hxr, Hxd, Hgot, HO⟩
  ihave Hcz := (ico_take (fun k => cred (tallyAt (zsC c k) () N)) w n hw) $$ Hcz
  icases Hcz with ⟨Hc, Hcz⟩
  ihave Hzs := (Pos_turn (zsC c) (zsC_mod c) w) $$ Hzs
  icases Hzs with ⟨Hat, Hback⟩
  unfold posAt
  icases Hat with ⟨Hat, -⟩
  iapply (step (wait_step m K c (6 + w % 2) hs (by omega) (by omega) (credit dst) (w / 2) n mm 0 (by rw [rounds_zs]; omega)
    (Nat.le_of_eq (lv_zs c w)) (fun _ => by omega) (fun _ => by omega))) $$ [Hc HO Hat]
  · isplitr; · iexact Hinv
    isplitr; · iexact Hlev
    isplitl [Hc]; · iexact Hc
    isplitl [HO]; · iexact HO
    iexact Hat
  iintro ⟨HO, Hat, Hr, Hpay⟩
  ihave Hpay := (Entails.of_eq (payload_zs m c w (w / 2) true)) $$ Hpay
  ihave Hzs := Hback $$ [Hat Hr]
  · isplitl [Hat]; · iexact Hat
    iexact Hr
  iframe

/-- The received block `r` is waited for. -/
theorem core_zr (n w r mm f x : ℕ) (hr : r < n) (hn : n ≤ 8) (hmm : mm ≤ r)
    {sp sp' : Space} {e' : EltTy} {s' : Shape}
    {s : DmaSem sig} {src : Memref sig .tc sp' s' e'} {dst : Memref sig .tc sp S2048x512 .bf16} {p q}
    (hs : s = dsem (10 + r % 8)) :
    iprop(Know m K ∗ Core m c n w r mm f x)
      ⊢ wp frame (wpE (defs₀ (F := F)) 𝒱₀ c none) Set.univ (Prog.lift (.waitDma2 s src dst p q)) fun _ =>
        Core m c n w (r + 1) mm f x := by
  unfold Core Know
  iintro ⟨⟨#Hinv, #Hlev⟩, Hsend, Hfwd, Hzr, Hzd, Hheld, Hzs, Hfs, Hcz, Hcf, Hown, Hxr, Hxd, Hgot, HO⟩
  ihave Hzr := (ico_take (fun k => todo (zrC c k)) r 8 (by omega)) $$ Hzr
  icases Hzr with ⟨Ht, Hzr⟩
  ihave Ht := (show todo (F := F) (zrC c r) ⊢ iprop(atPos ER (zrC c r) 0 ∅ 0 ∗ cred (tallyAt (zrC c r) () N)) from BI.Entails.refl _) $$ Ht
  icases Ht with ⟨Hat, Hc⟩
  iapply (step (wait_step m K c (10 + r % 8) hs (by omega) (by omega) (credit dst) 0 n mm (2 + r) (by rw [rounds_zr]; omega)
    (Nat.le_of_eq (lv_zr c r (by omega))) (fun _ => by omega) (fun _ => by omega))) $$ [Hc HO Hat]
  · isplitr; · iexact Hinv
    isplitr; · iexact Hlev
    isplitl [Hc]; · iexact Hc
    isplitl [HO]; · iexact HO
    iexact Hat
  iintro ⟨HO, Hat, -, Hpay⟩
  ihave Hpay := (Entails.of_eq (payload_zr m c r 0 (by omega) true)) $$ Hpay
  ihave Hheld := (ico_put (fun k => blkAt m c (2 * k + xOf c)) mm r hmm) $$ [Hheld Hpay]
  · isplitl [Hheld]; · iexact Hheld
    iexact Hpay
  ihave Hzd := (ico_put (fun k => (atPos ER (zrC c k) 1 ∅ 0 : sProp 𝕄)) 0 r (Nat.zero_le _)) $$ [Hzd Hat]
  · isplitl [Hzd]; · iexact Hzd
    iexact Hat
  iframe

/-- The received block `mm` is forwarded. -/
theorem core_fwd (n w r mm f x : ℕ) (hm : mm < r) (hr : r ≤ 8) (h1 : f ≤ mm) (h2 : mm ≤ f + 1)
    {d : Dev nD} {src : Memref sig .tc .hbm S2048x512 .bf16} {dst : Memref sig .tc .hbm S2048x512 .bf16} {sS sR : DmaSem sig}
    {hsc p1 p2 p3}
    (hd : d = xp c) (hsrc : src = blk (2 * mm + xOf c)) (hdst : dst = blk (2 * mm + xOf c)) (hS : sS = dsem (8 + mm % 2))
    (hR : sR = dsem (18 + mm % 8)) :
    iprop(Know m K ∗ Core m c n w r mm f x)
      ⊢ wp frame (wpE (defs₀ (F := F)) 𝒱₀ c none) Set.univ
          (Prog.lift (.enqueueDma src (.remote (Dev.tc d) dst (.dma sS) hsc) (.dma sR) p1 p2 p3)) fun _ =>
        Core m c n w r (mm + 1) f x := by
  unfold Core Know
  iintro ⟨⟨#Hinv, -⟩, Hsend, Hfwd, Hzr, Hzd, Hheld, Hzs, Hfs, Hcz, Hcf, Hown, Hxr, Hxd, Hgot, HO⟩
  ihave Hfwd := (ico_take (fun k => iprop(fwdTok (F := F) c k ∗ fwdDst c k)) mm 8 (by omega)) $$ Hfwd
  icases Hfwd with ⟨⟨Ht, Hd⟩, Hfwd⟩
  ihave Hheld := (ico_take (fun k => blkAt m c (2 * k + xOf c)) mm r hm) $$ Hheld
  icases Hheld with ⟨Hblk, Hheld⟩
  ihave Hfs := (Pos_reached (fsC c) (fsC_mod c) f mm h1 h2) $$ Hfs
  icases Hfs with ⟨Hr, Hfs⟩
  iapply (step (fwd_step m K c n mm (by omega) hd hsrc hdst hS hR)) $$ [Ht Hd Hr Hblk HO]
  · isplitr; · iexact Hinv
    isplitl [Ht]; · iexact Ht
    isplitl [Hd]; · iexact Hd
    isplitl [Hr]; · iexact Hr
    isplitl [Hblk]; · iexact Hblk
    iexact HO
  iintro ⟨Hc, HO⟩
  ihave Hcf := (ico_put (fun k => cred (tallyAt (fsC c k) () N)) f mm h1) $$ [Hcf Hc]
  · isplitl [Hcf]; · iexact Hcf
    iexact Hc
  iframe

/-- The forward of block `f` is waited for: the block is the device's own again. -/
theorem core_fs (n w r mm f x : ℕ) (hf : f < mm) (hm : mm ≤ 8)
    {sp sp' : Space} {e' : EltTy} {s' : Shape}
    {s : DmaSem sig} {src : Memref sig .tc sp' s' e'} {dst : Memref sig .tc sp S2048x512 .bf16} {p q}
    (hs : s = dsem (8 + f % 2)) :
    iprop(Know m K ∗ Core m c n w r mm f x)
      ⊢ wp frame (wpE (defs₀ (F := F)) 𝒱₀ c none) Set.univ (Prog.lift (.waitDma2 s src dst p q)) fun _ =>
        Core m c n w r mm (f + 1) x := by
  unfold Core Know
  iintro ⟨⟨#Hinv, #Hlev⟩, Hsend, Hfwd, Hzr, Hzd, Hheld, Hzs, Hfs, Hcz, Hcf, Hown, Hxr, Hxd, Hgot, HO⟩
  ihave Hcf := (ico_take (fun k => cred (tallyAt (fsC c k) () N)) f mm hf) $$ Hcf
  icases Hcf with ⟨Hc, Hcf⟩
  ihave Hfs := (Pos_turn (fsC c) (fsC_mod c) f) $$ Hfs
  icases Hfs with ⟨Hat, Hback⟩
  unfold posAt
  icases Hat with ⟨Hat, -⟩
  iapply (step (wait_step m K c (8 + f % 2) hs (by omega) (by omega) (credit dst) (f / 2) n mm 0 (by rw [rounds_fs]; omega)
    (Nat.le_of_eq (lv_fs c f)) (fun _ => by omega) (fun _ => by omega))) $$ [Hc HO Hat]
  · isplitr; · iexact Hinv
    isplitr; · iexact Hlev
    isplitl [Hc]; · iexact Hc
    isplitl [HO]; · iexact HO
    iexact Hat
  iintro ⟨HO, Hat, Hr, Hpay⟩
  ihave Hpay := (Entails.of_eq (payload_fs m c f true)) $$ Hpay
  ihave Hown := (ico_put (fun k => blkAt m c (2 * k + xOf c)) 0 f (Nat.zero_le _)) $$ [Hown Hpay]
  · isplitl [Hown]; · iexact Hown
    iexact Hpay
  ihave Hfs := Hback $$ [Hat Hr]
  · isplitl [Hat]; · iexact Hat
    iexact Hr
  iframe

/-- The block number `x` from the `x` neighbour is waited for, all sends and forwards made. -/
theorem core_xr (w r f x : ℕ) (hx : x < 8)
    {sp sp' : Space} {e' : EltTy} {s' : Shape}
    {s : DmaSem sig} {src : Memref sig .tc sp' s' e'} {dst : Memref sig .tc sp S2048x512 .bf16} {p q}
    (hs : s = dsem (18 + x % 8)) :
    iprop(Know m K ∗ Core m c 8 w r 8 f x)
      ⊢ wp frame (wpE (defs₀ (F := F)) 𝒱₀ c none) Set.univ (Prog.lift (.waitDma2 s src dst p q)) fun _ =>
        Core m c 8 w r 8 f (x + 1) := by
  unfold Core Know
  iintro ⟨⟨#Hinv, #Hlev⟩, Hsend, Hfwd, Hzr, Hzd, Hheld, Hzs, Hfs, Hcz, Hcf, Hown, Hxr, Hxd, Hgot, HO⟩
  ihave Hxr := (ico_take (fun k => todo (xrC c k)) x 8 (by omega)) $$ Hxr
  icases Hxr with ⟨Ht, Hxr⟩
  ihave Ht := (show todo (F := F) (xrC c x) ⊢ iprop(atPos ER (xrC c x) 0 ∅ 0 ∗ cred (tallyAt (xrC c x) () N)) from BI.Entails.refl _) $$ Ht
  icases Ht with ⟨Hat, Hc⟩
  iapply (step (wait_step m K c (18 + x % 8) hs (by omega) (by omega) (credit dst) 0 8 8 20 (by rw [rounds_xr]; omega)
    (Nat.le_of_eq (lv_xr c x)) (fun _ => by omega) (fun _ => by omega))) $$ [Hc HO Hat]
  · isplitr; · iexact Hinv
    isplitr; · iexact Hlev
    isplitl [Hc]; · iexact Hc
    isplitl [HO]; · iexact HO
    iexact Hat
  iintro ⟨HO, Hat, -, Hpay⟩
  ihave Hpay := (Entails.of_eq (payload_xr m c x 0 (by omega) true)) $$ Hpay
  ihave Hgot := (ico_put (fun k => blkAt m c (2 * k + xOf (xp c))) 0 x (Nat.zero_le _)) $$ [Hgot Hpay]
  · isplitl [Hgot]; · iexact Hgot
    iexact Hpay
  ihave Hxd := (ico_put (fun k => (atPos ER (xrC c k) 1 ∅ 0 : sProp 𝕄)) 0 x (Nat.zero_le _)) $$ [Hxd Hat]
  · isplitl [Hxd]; · iexact Hxd
    iexact Hat
  iframe

end Cert.KernelIdeal.Run
-- ==== Proof.Barrier.lean ====
module

public import proofs.«01_k».proof.Proof.State

@[expose] public section

/-!
# The first half of a grid point: the barrier, the wait before a slot is written, the product's tile
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The second slot, until the first block is sent. -/
def spare (n : ℕ) : sProp 𝕄 := if n = 0 then slotAny c 1 else iprop(emp)

/-- Between blocks, `n` of them sent. -/
def St (n : ℕ) : sProp 𝕄 :=
  iprop(Core m c n (n - 2) (n - 1) (n - 1) (n - 3) 0 ∗ (if 2 ≤ n then iprop(emp) else slotK m c n 0) ∗ spare c n)

/-- Within block `n`: its first `i` tiles are in the slot. -/
def SM (n i : ℕ) : sProp 𝕄 :=
  iprop(Core m c n (n - 1) (n - 1) (n - 1) (n - 3) 0 ∗ slotK m c n (512 * i) ∗ spare c n)

/-- A free slot is a slot with no row filled. -/
theorem slotK_zero (k : ℕ) : (slotAny c k : sProp 𝕄) ⊢ slotK m c k 0 := by
  unfold slotAny slotK
  iintro ⟨%f, H⟩
  iexists f
  isplitr
  · ipureintro; exact slotRows_zero m c _ f
  · iexact H

/-- The first two blocks need no wait. -/
theorem St_SM (n : ℕ) (h : n < 2) : St m c n ⊢ SM m c n 0 := by
  unfold St SM
  rw [if_neg (by omega), show n - 2 = n - 1 by omega, Nat.mul_zero]

/-- A later block first waits for the send that last used the slot. -/
theorem St_wait (K : GSem nD τ sig → ℕ) (n : ℕ) (h2 : 2 ≤ n) (hn : n ≤ 8)
    {sp sp' : Space} {e' : EltTy} {s' : Shape}
    {s : DmaSem sig} {src : Memref sig .tc sp' s' e'} {dst : Memref sig .tc sp S2048x512 .bf16} {p q}
    (hs : s = dsem (6 + n % 2)) :
    iprop(Know m K ∗ St m c n)
      ⊢ wp frame (wpE (defs₀ (F := F)) 𝒱₀ c none) Set.univ (Prog.lift (.waitDma2 s src dst p q)) fun _ => SM m c n 0 := by
  unfold St SM
  rw [if_pos h2]
  iintro ⟨#Hk, Hcore, -, Hsp⟩
  iapply (step (core_zs m K c n (n - 2) (n - 1) (n - 1) (n - 3) 0 (by omega) hn (by rw [hs, show (n - 2) % 2 = n % 2 by omega]))) $$ [Hcore]
  · isplitr; · iexact Hk
    iexact Hcore
  rw [show n - 2 + 1 = n - 1 by omega, slotAny_mod c (n - 2) n (by omega), Nat.mul_zero]
  iintro ⟨Hs, Hcore⟩
  isplitl [Hcore]; · iexact Hcore
  isplitl [Hs]; · iapply (slotK_zero m c n); iexact Hs
  iexact Hsp

/-- What a device holds before the barrier. -/
def Pre : sProp 𝕄 :=
  iprop(dutyTok ER (barC (zp c)) 0 true ∗ reached ER (barC (zp c)) 0 ∗ barPay (zp c) true
    ∗ dutyTok ER (barC (xp c)) 0 false ∗ reached ER (barC (xp c)) 0 ∗ barPay (xp c) false
    ∗ cred (tallyAt (barC c) () 2) ∗ atPos ER (barC c) 0 ∅ 0 ∗ owing c (O₀ c)
    ∗ (bigSep (Finset.Ico 0 8) fun k => sendTok c k) ∗ (bigSep (Finset.Ico 0 8) fun k => fwdTok c k)
    ∗ (bigSep (Finset.Ico 0 8) fun k => todo (zrC c k)) ∗ (bigSep (Finset.Ico 0 8) fun k => todo (xrC c k))
    ∗ Pos (zsC c) 0 ∗ Pos (fsC c) 0 ∗ slotAny c 0 ∗ slotAny c 1)

/-- With the barrier behind it, a device holds its neighbours' blocks. -/
theorem Pre_done :
    iprop(owing c (owed c 0 0) ∗ barPay c true ∗ barPay c false
        ∗ (bigSep (Finset.Ico 0 8) fun k => sendTok c k) ∗ (bigSep (Finset.Ico 0 8) fun k => fwdTok c k)
        ∗ (bigSep (Finset.Ico 0 8) fun k => todo (zrC c k)) ∗ (bigSep (Finset.Ico 0 8) fun k => todo (xrC c k))
        ∗ Pos (zsC c) 0 ∗ Pos (fsC c) 0 ∗ slotAny c 0 ∗ slotAny c 1) ⊢ St m c 0 := by
  have ez : (barPay (F := F) c true : sProp 𝕄) = bigSep (Finset.Ico 0 8) fun k => sendDst c k := rfl
  have ex : (barPay (F := F) c false : sProp 𝕄) = bigSep (Finset.Ico 0 8) fun k => fwdDst c k := rfl
  rw [ez, ex]
  unfold St Core spare
  rw [if_neg (by decide), if_pos rfl]
  iintro ⟨HO, Hz, Hx, Hst, Hft, Hzr, Hxr, Hzs, Hfs, Hs0, Hs1⟩
  ihave Hsend := (Entails.of_eq (bigSep_sep' (s := Finset.Ico 0 8) (Φ := fun k => sendTok (F := F) c k) (Ψ := fun k => sendDst c k)).symm) $$ [Hst Hz]
  · isplitl [Hst]; · iexact Hst
    iexact Hz
  ihave Hfwd := (Entails.of_eq (bigSep_sep' (s := Finset.Ico 0 8) (Φ := fun k => fwdTok (F := F) c k) (Ψ := fun k => fwdDst c k)).symm) $$ [Hft Hx]
  · isplitl [Hft]; · iexact Hft
    iexact Hx
  ihave Hs0 := (slotK_zero m c 0) $$ Hs0
  isplitr [Hs0 Hs1]
  · isplitl [Hsend]; · iexact Hsend
    isplitl [Hfwd]; · iexact Hfwd
    isplitl [Hzr]; · iexact Hzr
    isplitr; · iapply (ico_none _ _)
    isplitr; · iapply (ico_none _ _)
    isplitl [Hzs]; · iexact Hzs
    isplitl [Hfs]; · iexact Hfs
    isplitr; · iapply (ico_none _ _)
    isplitr; · iapply (ico_none _ _)
    isplitr; · iapply (ico_none _ _)
    isplitl [Hxr]; · iexact Hxr
    isplitr; · iapply (ico_none _ _)
    isplitr; · iapply (ico_none _ _)
    iexact HO
  · isplitl [Hs0]; · iexact Hs0
    iexact Hs1

/-! ## Where a grid point stands -/

/-- The number of blocks sent before point `t`. -/
abbrev qN (t : ℕ) : ℕ := (t + 4 - 4 * xOf c) / 8

/-- Point `t` fills a tile of a slot. -/
abbrev mine (t : ℕ) : Prop := t / 4 % 2 = xOf c

/-- Before point `t`, the barrier past. -/
def Start (t : ℕ) : sProp 𝕄 :=
  if mine c t ∧ t % 4 ≠ 0 then SM m c (qN c t) (t % 4) else St m c (qN c t)

/-- In point `t`, once its slot may be written. -/
def Mid (t : ℕ) : sProp 𝕄 :=
  if mine c t then SM m c (qN c t) (t % 4) else St m c (qN c t)

/-- A point with no wait for a slot may write at once. -/
theorem Start_Mid (t : Fin grid0.N) (c2 : ¬ k0_cond2 (grid0.coords t) c = 1#1) : Start m c t.val ⊢ Mid m c t.val := by
  have h64 := lt64 t
  have hx := xOf_le c
  unfold Start Mid
  by_cases hm : mine c t.val
  · rw [if_pos hm]
    by_cases h0 : t.val % 4 = 0
    · rw [if_neg (fun h => h.2 h0), h0]
      have h2 : ¬ 2 ≤ t.val / 8 := fun h => c2 ((cond2_iff t c).mpr ⟨h0, hm, h⟩)
      exact St_SM m c _ (by unfold qN; unfold mine at hm; omega)
    · rw [if_pos ⟨hm, h0⟩]
  · rw [if_neg hm, if_neg (fun h => hm h.1)]

/-- Before point `t`. -/
def Before (t : ℕ) : sProp 𝕄 :=
  if t = 0 then Pre c else iprop(Start m c t ∗ semVal (barC c) 0)

/-- A device's own number. -/
theorem devId (Φ : Dev nD → sProp 𝕄) :
    Φ c ⊢ wp frame (wpE (defs₀ (F := F)) 𝒱₀ c none) Set.univ (Prog.lift .deviceId) Φ := by
  unfold Prog.lift
  rw [wp_deviceId, wp_ret]
  exact fupd_intro

/-- The two operands' windows are read, and something is made of them. -/
theorem loads2 {α : Type} (A2 : Memref sig .tc .vmem S512x4096 .f32) (A3 : Memref sig .tc .vmem S4096x512 .f32)
    (X : S512x4096.Idx → Elt F .f32) (Y : S4096x512.Idx → Elt F .f32) {i2 i3 l2 l3}
    (f : (S512x4096.Idx → Elt F .f32) → (S4096x512.Idx → Elt F .f32) → α) (Φ : α → sProp 𝕄) :
    iprop(owns (c : Thread nD τ) A2 fullShare X ∗ owns (c : Thread nD τ) A3 fullShare Y
        ∗ (owns (c : Thread nD τ) A2 fullShare X ∗ owns (c : Thread nD τ) A3 fullShare Y -∗ Φ (f X Y)))
      ⊢ wp frame (wpE (defs₀ (F := F)) 𝒱₀ c none) Set.univ
          (Prog.lift (.load A2 (Rect.unit (s := S512x4096) ![0, 0] S512x4096.size i2).toLoadRect l2) >>= fun v =>
            Prog.lift (.load A3 (Rect.unit (s := S4096x512) ![0, 0] S4096x512.size i3).toLoadRect l3) >>= fun w => pure (f v w)) Φ := by
  simp only [wp_bind]
  iintro ⟨H2, H3, Hk⟩
  iapply (stepV (load_owns (c := c) A2 fullShare X rfl)) $$ [H2]
  · iexact H2
  iintro %v ⟨%hv, H2⟩
  iapply (stepV (load_owns (c := c) A3 fullShare Y rfl)) $$ [H3]
  · iexact H3
  iintro %w ⟨%hw, H3⟩
  rw [hv, hw, wp_pure]
  imodintro
  iapply Hk
  isplitl [H2]; · iexact H2
  iexact H3

/-- The first half of point `t`. -/
theorem part6 (K : GSem nD τ sig → ℕ) (t : Fin grid0.N)
    (A2 : Memref sig .tc .vmem S512x4096 .f32) (h2 : A2.IsWhole) (A3 : Memref sig .tc .vmem S4096x512 .f32) (h3 : A3.IsWhole)
    (A4 : Memref sig .tc .vmem S512x512 .bf16) (h4 : A4.IsWhole) (h5 h6) (X : S512x4096.Idx → Elt F .f32) (Y : S4096x512.Idx → Elt F .f32) :
    iprop(Know m K ∗ Before m c t.val ∗ owns (c : Thread nD τ) A2 fullShare X ∗ owns (c : Thread nD τ) A3 fullShare Y)
      ⊢ wp frame (wpE (defs₀ (F := F)) 𝒱₀ c none) Set.univ
          (k0_part6 (F := F) (grid0.coords t) A2 h2 A3 h3 A4 h4 (Memref.whole main_v1_1) h5 (Memref.whole cc0_scratch0) h6
            cc0_scratch1 cc0_scratch2 cc0_scratch3 cc0_scratch4) fun a =>
        iprop(⌜a.2.2.1 = c ∧ a.2.2.2.2.2.2.2.2.2.2.2 = k0_pay3 X Y⌝
          ∗ owns (c : Thread nD τ) A2 fullShare X ∗ owns (c : Thread nD τ) A3 fullShare Y
          ∗ Mid m c t.val ∗ semVal (barC c) 0) := by
  rw [k0_part6_eq_skeleton]
  unfold k0_part6_skel
  rw [wp_bind]
  refine BI.Entails.trans ?_ (devId c _)
  show _ ⊢ wp _ _ _ _ _
  by_cases c1 : k0_cond1 (grid0.coords t) = 1#1
  · have ht := (cond1_iff t).mp c1
    have c2 : ¬ k0_cond2 (grid0.coords t) c = 1#1 := by rw [cond2_iff]; omega
    rw [dif_pos c1]
    rw [wp_bind, wp_bind, wp_bind]
    rw [dif_neg c2]
    unfold Before
    rw [if_pos ht]
    unfold Pre Know
    iintro ⟨⟨#Hinv, #Hlev⟩, ⟨Htz, Hrz, Hpz, Htx, Hrx, Hpx, Hc, Hat, HO, Hrest⟩, H2, H3⟩
    iapply (step (signal_z m K c (dev1_eq c _))) $$ [Htz Hrz Hpz HO]
    · isplitr; · iexact Hinv
      isplitl [Htz]; · iexact Htz
      isplitl [Hrz]; · iexact Hrz
      isplitl [Hpz]; · iexact Hpz
      iexact HO
    iintro HO
    iapply (step (signal_x m K c (dev2_eq c _))) $$ [Htx Hrx Hpx HO]
    · isplitr; · iexact Hinv
      isplitl [Htx]; · iexact Htx
      isplitl [Hrx]; · iexact Hrx
      isplitl [Hpx]; · iexact Hpx
      iexact HO
    iintro HO
    iapply (step (wait_bar m K c)) $$ [Hc Hat HO]
    · isplitr; · iexact Hinv
      isplitr; · iexact Hlev
      isplitl [Hc]; · iexact Hc
      isplitl [HO]; · iexact HO
      iexact Hat
    iintro ⟨HO, Hat, Hz, Hx⟩
    imod (close_bar m K c) $$ [Hat] with Hsem
    · isplitr; · iexact Hinv
      iexact Hat
    ihave Hst := (Pre_done m c) $$ [HO Hz Hx Hrest]
    · isplitl [HO]; · iexact HO
      isplitl [Hz]; · iexact Hz
      isplitl [Hx]; · iexact Hx
      iexact Hrest
    iapply (loads2 c A2 A3 X Y) $$ [H2 H3 Hst Hsem]
    isplitl [H2]; · iexact H2
    isplitl [H3]; · iexact H3
    iintro ⟨H2, H3⟩
    isplitr; · ipureintro; exact ⟨rfl, rfl⟩
    isplitl [H2]; · iexact H2
    isplitl [H3]; · iexact H3
    isplitr [Hsem]
    · unfold Mid
      have hx := xOf_le c
      rw [show qN c t.val = 0 by unfold qN; omega]
      by_cases hm : mine c t.val
      · rw [if_pos hm, show t.val % 4 = 0 by omega]
        iapply (St_SM m c 0 (by decide))
        iexact Hst
      · rw [if_neg hm]
        iexact Hst
    · iexact Hsem
  · have ht : ¬ t.val = 0 := fun h => c1 ((cond1_iff t).mpr h)
    have h64 := lt64 t
    have hx := xOf_le c
    rw [dif_neg c1]
    unfold Before
    rw [if_neg ht]
    by_cases c2 : k0_cond2 (grid0.coords t) c = 1#1
    · obtain ⟨e0, em, e8⟩ := (cond2_iff t c).mp c2
      rw [dif_pos c2, wp_bind]
      unfold Start Mid
      rw [if_neg (fun h => h.2 e0), if_pos em, e0]
      iintro ⟨#Hk, ⟨Hst, Hsem⟩, H2, H3⟩
      have hq : qN c t.val = t.val / 8 := by unfold qN; omega
      iapply (step (St_wait m c K (qN c t.val) (by rw [hq]; exact e8) (by rw [hq]; omega)
        (sem_zs _ (qN c t.val % 2) (by omega) ((k0_off1_eq (grid0.coords t)).trans (by rw [coord0, hq]; congr 1; omega)) _))) $$ [Hst]
      · isplitr; · iexact Hk
        iexact Hst
      iintro Hst
      iapply (loads2 c A2 A3 X Y) $$ [H2 H3 Hst Hsem]
      isplitl [H2]; · iexact H2
      isplitl [H3]; · iexact H3
      iintro ⟨H2, H3⟩
      isplitr; · ipureintro; exact ⟨rfl, rfl⟩
      isplitl [H2]; · iexact H2
      isplitl [H3]; · iexact H3
      isplitl [Hst]; · iexact Hst
      iexact Hsem
    · rw [dif_neg c2]
      iintro ⟨#Hk, ⟨Hst, Hsem⟩, H2, H3⟩
      iapply (loads2 c A2 A3 X Y) $$ [H2 H3 Hst Hsem]
      isplitl [H2]; · iexact H2
      isplitl [H3]; · iexact H3
      iintro ⟨H2, H3⟩
      isplitr; · ipureintro; exact ⟨rfl, rfl⟩
      isplitl [H2]; · iexact H2
      isplitl [H3]; · iexact H3
      isplitl [Hst]
      · iapply (Start_Mid m c t c2)
        iexact Hst
      · iexact Hsem

end Cert.KernelIdeal.Run
-- ==== Proof.Tail.lean ====
module

public import proofs.«01_k».proof.Proof.Barrier

@[expose] public section

/-!
# A tile put in a slot; the waits at the last point; the cells closed
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Tiles -/

/-- The tile's place in the slot is within the slot. -/
theorem tile_subset (k i : ℕ) (hi : i < 4) (o : Fin 3 → ℕ) (ho : o = ![k % 2, 512 * i, 0])
    (h : ∀ a, o a + S1x512x512.size a ≤ S2x2048x512.size a) :
    ((View.whole (κ := .tc) cc0_scratch0).slice (Rect.unit (s := S2x2048x512) o S1x512x512.size h)).set ⊆ (slotM k).view.set := by
  subst ho
  intro y hy
  have e := (ValueKit.mem_set_slice_whole_iff (κ := .tc) cc0_scratch0 (Rect.unit (s := S2x2048x512) ![k % 2, 512 * i, 0] S1x512x512.size h) y Iff.rfl).mp hy
  rw [Rect.mem_set_unit] at e
  have h1 := e 0
  change k % 2 ≤ (y 0).val ∧ (y 0).val < k % 2 + 1 at h1
  exact (mem_slot k y).mpr (by omega)

/-- A slot is a part of the send buffer. -/
theorem slot_whole (k : ℕ) (f) : (((slotM k).view.loc (c : Thread nD τ) ↦[(slotM k).view.set]{fullShare} f : sProp 𝕄)
      ⊢ ((Memref.whole cc0_scratch0 : Memref sig .tc .vmem S2x2048x512 .bf16).view.loc (c : Thread nD τ) ↦[(slotM k).view.set]{fullShare} f))
    ∧ (((Memref.whole cc0_scratch0 : Memref sig .tc .vmem S2x2048x512 .bf16).view.loc (c : Thread nD τ) ↦[(slotM k).view.set]{fullShare} f : sProp 𝕄)
      ⊢ ((slotM k).view.loc (c : Thread nD τ) ↦[(slotM k).view.set]{fullShare} f)) :=
  ⟨BI.Entails.refl _, BI.Entails.refl _⟩

/-- The tile's old contents are read and dropped. -/
theorem tile_load (k n i : ℕ) (hi : i < 4) {o : Fin 3 → ℕ} (ho : o = ![k % 2, 512 * i, 0]) {h hl} :
    slotK m c k n ⊢ wp frame (wpE (defs₀ (F := F)) 𝒱₀ c none) Set.univ
      (Prog.lift (.load (Memref.whole cc0_scratch0) (Rect.unit (s := S2x2048x512) o S1x512x512.size h).toLoadRect hl)) fun _ =>
      slotK m c k n := by
  unfold slotK
  iintro ⟨%f, %hf, H⟩
  ihave H := (slot_whole (F := F) c k f).1 $$ H
  iapply (wp_load_rect 𝒱₀ (c : Thread nD τ) none Set.univ (m := Memref.whole cc0_scratch0)
    (r := Rect.unit (s := S2x2048x512) o S1x512x512.size h) (q := fullShare) (f := f) (S := (slotM k).view.set)
    (tile_subset k i hi o ho h)) $$ H
  iintro H
  rw [wp_ret]
  imodintro
  iexists f
  isplitr
  · ipureintro; exact hf
  · iapply (slot_whole (F := F) c k f).2; iexact H

/-- Tile `i` of the block is put in the slot. -/
theorem tile_store (k i : ℕ) (hi : i < 4) {o : Fin 3 → ℕ} (ho : o = ![k % 2, 512 * i, 0]) {h hx hm}
    (v : FVec F S512x512 .f32) (hv : v = prod m c i (2 * k + xOf c)) :
    slotK m c k (512 * i) ⊢ wp frame (wpE (defs₀ (F := F)) 𝒱₀ c none) Set.univ
      (Prog.lift (.store (Memref.whole cc0_scratch0) (Rect.unit (s := S2x2048x512) o S1x512x512.size h) (k0_pay2 v) Finset.univ hx hm)) fun _ =>
      slotK m c k (512 * (i + 1)) := by
  subst hv
  have hc := xOf_le c
  unfold slotK
  iintro ⟨%f, %hf, H⟩
  ihave H := (slot_whole (F := F) c k f).1 $$ H
  iapply (wp_store 𝒱₀ (c : Thread nD τ) none Set.univ (m := Memref.whole cc0_scratch0)
    (r := Rect.unit (s := S2x2048x512) o S1x512x512.size h) (w := k0_pay2 (prod m c i (2 * k + xOf c))) (Mk := Finset.univ) (f := f)
    (S := (slotM k).view.set) (tile_subset k i hi o ho h)) $$ H
  iintro H
  rw [wp_ret]
  imodintro
  iexists _
  isplitr
  rotate_left
  · iapply (slot_whole (F := F) c k _).2; iexact H
  · ipureintro
    exact slotRows_store m c (2 * k + xOf c) i f hf o (ho.trans (by rw [show (2 * k + xOf c) / 2 = k by omega])) h

/-! ## The last point's waits -/

variable (K : GSem nD τ sig → ℕ) (t : Fin grid0.N)
  (A2 : Memref sig .tc .vmem S512x4096 .f32) (h2 : A2.IsWhole) (A3 : Memref sig .tc .vmem S4096x512 .f32) (h3 : A3.IsWhole)
  (A4 : Memref sig .tc .vmem S512x512 .bf16) (h4 : A4.IsWhole)

/-- The blocks that the last waits name. -/
theorem blk15 (r : Fin 2) (b : BitVec 32) (hb : b = BitVec.ofNat 32 (12 + 2 * r.val)) (h) (h') :
    (Memref.whole main_v1_1 : Memref sig .tc .hbm S2048x8192 .bf16).slice
      (Rect.unit (k0_off15 c b) S2048x512.size h) h' = blk (2 * (6 + r.val) + xOf c) := by
  have hx := xOf_le c
  subst hb
  exact blk_of _ _ (by have := r.isLt; omega) ((k0_off15_eq c r).trans (by congr 1; funext _; congr 1; unfold xOf; omega)) h h'

/-- The last received block is waited for, and the forward that used its semaphore last. -/
theorem part1 (h5 h6) (v2 v5 v8 v9 v10 h7) :
    iprop(Know m K ∗ Core m c 8 6 7 7 5 0)
      ⊢ wp frame (wpE (defs₀ (F := F)) 𝒱₀ c none) Set.univ
          (k0_part1 (F := F) (grid0.coords t) A2 h2 A3 h3 A4 h4 (Memref.whole main_v1_1) h5 (Memref.whole cc0_scratch0) h6
            cc0_scratch1 cc0_scratch2 cc0_scratch3 cc0_scratch4 c v2 v5 v8 v9 v10 h7) fun _ => Core m c 8 6 8 7 6 0 := by
  rw [k0_part1_eq_skeleton]
  unfold k0_part1_skel
  simp only [wp_bind]
  iintro ⟨#Hk, H⟩
  iapply (step (core_zr m K c 8 6 7 7 5 0 (by decide) (by decide) (by decide) (sem_zr _ 7 (by decide) rfl _))) $$ [H]
  · isplitr; · iexact Hk
    iexact H
  iintro H
  iapply (step (core_fs m K c 8 6 8 7 5 0 (by decide) (by decide) (sem_fs _ 1 (by decide) rfl _))) $$ [H]
  · isplitr; · iexact Hk
    iexact H
  iintro H
  rw [wp_pure]
  imodintro
  iexact H

/-- The last forward; then the waits for the last two sends. -/
theorem part2 (h5 h6) (v2 h7 v46) :
    iprop(Know m K ∗ Core m c 8 6 8 7 6 0)
      ⊢ wp frame (wpE (defs₀ (F := F)) 𝒱₀ c none) Set.univ
          (k0_part2 (F := F) (grid0.coords t) A2 h2 A3 h3 A4 h4 (Memref.whole main_v1_1) h5 (Memref.whole cc0_scratch0) h6
            cc0_scratch1 cc0_scratch2 cc0_scratch3 cc0_scratch4 c v2 h7 v46) fun _ =>
          iprop(slotAny c 0 ∗ slotAny c 1 ∗ Core m c 8 8 8 8 7 0) := by
  rw [k0_part2_eq_skeleton]
  unfold k0_part2_skel
  simp only [wp_bind]
  iintro ⟨#Hk, H⟩
  iapply (step (core_fwd m K c 8 6 8 7 6 0 (by decide) (by decide) (by decide) (by decide) (dev5_eq c _) (blk15 c 1 _ rfl _ _) (blk15 c 1 _ rfl _ _)
    (sem_fs _ 1 (by decide) rfl _) (sem_xr _ 7 (by decide) rfl _))) $$ [H]
  · isplitr; · iexact Hk
    iexact H
  iintro H
  iapply (step (core_zs m K c 8 6 8 8 6 0 (by decide) (by decide) (sem_zs _ 0 (by decide) rfl _))) $$ [H]
  · isplitr; · iexact Hk
    iexact H
  iintro ⟨Hs0, H⟩
  iapply (step (core_zs m K c 8 7 8 8 6 0 (by decide) (by decide) (sem_zs _ 1 (by decide) rfl _))) $$ [H]
  · isplitr; · iexact Hk
    iexact H
  iintro ⟨Hs1, H⟩
  iapply (step (core_fs m K c 8 8 8 8 6 0 (by decide) (by decide) (sem_fs _ 0 (by decide) rfl _))) $$ [H]
  · isplitr; · iexact Hk
    iexact H
  iintro H
  ihave Hs0 := (Entails.of_eq (slotAny_mod (F := F) c 6 0 (by decide))) $$ Hs0
  ihave Hs1 := (Entails.of_eq (slotAny_mod (F := F) c 7 1 (by decide))) $$ Hs1
  rw [wp_pure]
  imodintro
  iframe

/-- The last forward is waited for, and two blocks arrive along `x`. -/
theorem part3 (h5 h6) (v2 v5 v8 v10 h7) :
    iprop(Know m K ∗ Core m c 8 8 8 8 7 0)
      ⊢ wp frame (wpE (defs₀ (F := F)) 𝒱₀ c none) Set.univ
          (k0_part3 (F := F) (grid0.coords t) A2 h2 A3 h3 A4 h4 (Memref.whole main_v1_1) h5 (Memref.whole cc0_scratch0) h6
            cc0_scratch1 cc0_scratch2 cc0_scratch3 cc0_scratch4 c v2 v5 v8 v10 h7) fun _ => Core m c 8 8 8 8 8 2 := by
  rw [k0_part3_eq_skeleton]
  unfold k0_part3_skel
  simp only [wp_bind]
  iintro ⟨#Hk, H⟩
  iapply (step (core_fs m K c 8 8 8 8 7 0 (by decide) (by decide) (sem_fs _ 1 (by decide) rfl _))) $$ [H]
  · isplitr; · iexact Hk
    iexact H
  iintro H
  iapply (step (core_xr m K c 8 8 8 0 (by decide) (sem_xr _ 0 (by decide) rfl _))) $$ [H]
  · isplitr; · iexact Hk
    iexact H
  iintro H
  iapply (step (core_xr m K c 8 8 8 1 (by decide) (sem_xr _ 1 (by decide) rfl _))) $$ [H]
  · isplitr; · iexact Hk
    iexact H
  iintro H
  rw [wp_pure]
  imodintro
  iexact H

/-- Then two more blocks arrive along `x`. -/
theorem part4 (h5 h6) (v2 v5 v8 v10 h7 w) :
    iprop(Know m K ∗ Core m c 8 8 8 8 8 2)
      ⊢ wp frame (wpE (defs₀ (F := F)) 𝒱₀ c none) Set.univ
          (k0_part4 (F := F) (grid0.coords t) A2 h2 A3 h3 A4 h4 (Memref.whole main_v1_1) h5 (Memref.whole cc0_scratch0) h6
            cc0_scratch1 cc0_scratch2 cc0_scratch3 cc0_scratch4 c v2 v5 v8 v10 h7 w) fun _ => Core m c 8 8 8 8 8 4 := by
  rw [k0_part4_eq_skeleton]
  unfold k0_part4_skel
  simp only [wp_bind]
  iintro ⟨#Hk, H⟩
  iapply (step (core_xr m K c 8 8 8 2 (by decide) (sem_xr _ 2 (by decide) rfl _))) $$ [H]
  · isplitr; · iexact Hk
    iexact H
  iintro H
  iapply (step (core_xr m K c 8 8 8 3 (by decide) (sem_xr _ 3 (by decide) rfl _))) $$ [H]
  · isplitr; · iexact Hk
    iexact H
  iintro H
  rw [wp_pure]
  imodintro
  iexact H

/-- And two more. -/
theorem part5 (h5 h6) (v2 v5 v8 v10 h7 w w') :
    iprop(Know m K ∗ Core m c 8 8 8 8 8 4)
      ⊢ wp frame (wpE (defs₀ (F := F)) 𝒱₀ c none) Set.univ
          (k0_part5 (F := F) (grid0.coords t) A2 h2 A3 h3 A4 h4 (Memref.whole main_v1_1) h5 (Memref.whole cc0_scratch0) h6
            cc0_scratch1 cc0_scratch2 cc0_scratch3 cc0_scratch4 c v2 v5 v8 v10 h7 w w') fun _ => Core m c 8 8 8 8 8 6 := by
  rw [k0_part5_eq_skeleton]
  unfold k0_part5_skel
  simp only [wp_bind]
  iintro ⟨#Hk, H⟩
  iapply (step (core_xr m K c 8 8 8 4 (by decide) (sem_xr _ 4 (by decide) rfl _))) $$ [H]
  · isplitr; · iexact Hk
    iexact H
  iintro H
  iapply (step (core_xr m K c 8 8 8 5 (by decide) (sem_xr _ 5 (by decide) rfl _))) $$ [H]
  · isplitr; · iexact Hk
    iexact H
  iintro H
  rw [wp_pure]
  imodintro
  iexact H

/-! ## The cells closed -/

/-- What a device holds after the first call. -/
def Done : sProp 𝕄 :=
  iprop((bigSep (Finset.Ico 0 8) fun k => blkAt m c (2 * k + xOf c)) ∗ (bigSep (Finset.Ico 0 8) fun k => blkAt m c (2 * k + xOf (xp c)))
    ∗ slotAny c 0 ∗ slotAny c 1
    ∗ semVal (zsC c 0) 0 ∗ semVal (zsC c 1) 0 ∗ semVal (fsC c 0) 0 ∗ semVal (fsC c 1) 0
    ∗ (bigSep (Finset.Ico 0 8) fun k => semVal (zrC c k) 0) ∗ (bigSep (Finset.Ico 0 8) fun k => semVal (xrC c k) 0)
    ∗ owing c 0)

/-- A copy semaphore, its rounds over, is at zero again. -/
theorem close_one (n r : ℕ) (h6 : 6 ≤ n) (h26 : n < 26) (hr : rounds n ≤ r) :
    iprop(Know m K ∗ atPos ER ((c : Thread nD τ), .dma (dsem n)) r ∅ 0)
      ⊢ (|={Set.univ}=> semVal ((c : Thread nD τ), .dma (dsem n)) 0 : sProp 𝕄) := by
  unfold Know
  iintro ⟨⟨#Hinv, -⟩, H⟩
  iapply (close_dma m K c n r h6 h26 hr)
  isplitr; · iexact Hinv
  iexact H

/-- So are eight of them. -/
theorem close_row (n : ℕ → ℕ) (h6 : ∀ k, 6 ≤ n k) (h26 : ∀ k, n k < 26) (hr : ∀ k, rounds (n k) ≤ 1) :
    iprop(Know m K ∗ bigSep (Finset.Ico 0 8) fun k => atPos ER ((c : Thread nD τ), .dma (dsem (n k))) 1 ∅ 0)
      ⊢ (|={Set.univ}=> bigSep (Finset.Ico 0 8) fun k => semVal ((c : Thread nD τ), .dma (dsem (n k))) 0 : sProp 𝕄) := by
  exact (bigSep_with_persistent (S := Finset.Ico 0 8) (R := Know m K) fun k _ => close_one m c K (n k) 1 (h6 k) (h26 k) (hr k)).trans
    (bigSep_fupd _ _)

/-- When all is sent, forwarded and received, every copy semaphore is at zero again. -/
theorem core_close :
    iprop(Know m K ∗ slotAny c 0 ∗ slotAny c 1 ∗ Core m c 8 8 8 8 8 8) ⊢ (|={Set.univ}=> Done m c : sProp 𝕄) := by
  unfold Core Done Pos posAt
  rw [owed_done]
  iintro ⟨#Hk, Hs0, Hs1, -, -, -, Hzd, -, ⟨⟨Hz0, -⟩, Hz1, -⟩, ⟨⟨Hf0, -⟩, Hf1, -⟩, -, -, Hown, -, Hxd, Hgot, HO⟩
  imod (close_one m c K (6 + 0 % 2) 4 (by decide) (by decide) (by decide)) $$ [Hz0] with Hz0
  · isplitr; · iexact Hk
    iexact Hz0
  imod (close_one m c K (6 + 1 % 2) 4 (by decide) (by decide) (by decide)) $$ [Hz1] with Hz1
  · isplitr; · iexact Hk
    iexact Hz1
  imod (close_one m c K (8 + 0 % 2) 4 (by decide) (by decide) (by decide)) $$ [Hf0] with Hf0
  · isplitr; · iexact Hk
    iexact Hf0
  imod (close_one m c K (8 + 1 % 2) 4 (by decide) (by decide) (by decide)) $$ [Hf1] with Hf1
  · isplitr; · iexact Hk
    iexact Hf1
  imod (close_row m c K (fun k => 10 + k % 8) (fun _ => by omega) (fun _ => by omega) (fun k => Nat.le_of_eq (rounds_zr k))) $$ [Hzd] with Hzd
  · isplitr; · iexact Hk
    iexact Hzd
  imod (close_row m c K (fun k => 18 + k % 8) (fun _ => by omega) (fun _ => by omega) (fun k => Nat.le_of_eq (rounds_xr k))) $$ [Hxd] with Hxd
  · isplitr; · iexact Hk
    iexact Hxd
  imodintro
  isplitl [Hown]; · iexact Hown
  isplitl [Hgot]; · iexact Hgot
  isplitl [Hs0]; · iexact Hs0
  isplitl [Hs1]; · iexact Hs1
  isplitl [Hz0]; · iexact Hz0
  isplitl [Hz1]; · iexact Hz1
  isplitl [Hf0]; · iexact Hf0
  isplitl [Hf1]; · iexact Hf1
  isplitl [Hzd]; · iexact Hzd
  isplitl [Hxd]; · iexact Hxd
  iexact HO

end Cert.KernelIdeal.Run
-- ==== Proof.Body.lean ====
module

public import proofs.«01_k».proof.Proof.Tail

@[expose] public section

/-!
# One grid point of the first call
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Nothing needs nothing. -/
theorem emp_holds : ⊢ (emp : sProp 𝕄) := BI.Entails.refl _

/-- After point `t`. -/
def After (t : ℕ) : sProp 𝕄 :=
  iprop((if t = 63 then Done m c else Start m c (t + 1)) ∗ semVal (barC c) 0)

/-- A point that fills no tile moves nothing. -/
theorem idle (t : ℕ) (ht : t < 64) (hm : ¬ mine c t) : Mid m c t ⊢ Start m c (t + 1) := by
  have hx := xOf_le c
  unfold Mid Start
  rw [if_neg hm]
  have e : qN c t = qN c (t + 1) := by unfold qN; unfold mine at hm; omega
  rw [if_neg (by unfold mine at *; omega), e]

/-- A tile short of the last leaves the block unfinished. -/
theorem filled (t : ℕ) (ht : t < 64) (hm : mine c t) (h3 : t % 4 ≠ 3) :
    SM m c (qN c t) (t % 4 + 1) ⊢ Start m c (t + 1) := by
  have hx := xOf_le c
  unfold Start
  have e : qN c t = qN c (t + 1) := by unfold qN; unfold mine at hm; omega
  have e' : t % 4 + 1 = (t + 1) % 4 := by omega
  rw [if_pos (by unfold mine at *; omega), e, e']

/-- The block's last tile, the block sent. -/
theorem sent (t : ℕ) (ht : t < 64) (hm : mine c t) (h3 : t % 4 = 3) :
    St m c (qN c t + 1) ⊢ Start m c (t + 1) := by
  have hx := xOf_le c
  unfold Start
  have e : qN c t + 1 = qN c (t + 1) := by unfold qN; unfold mine at hm; omega
  rw [if_neg (by omega), e]

/-- With the last block sent, the counts are these. -/
theorem start_last : Start m c (63 + 1) ⊢ Core m c 8 6 7 7 5 0 := by
  have hx := xOf_le c
  unfold Start
  rw [if_neg (by omega), show qN c (63 + 1) = 8 by unfold qN; omega]
  unfold St
  iintro ⟨H, -⟩
  iexact H

/-- The slot finished and sent, and with the previous block forwarded, the next block may begin. -/
theorem St_of (k : ℕ) (hk : 1 ≤ k) : Core m c (k + 1) (k - 1) k k (k - 2) 0 ⊢ St m c (k + 1) := by
  unfold St spare
  rw [if_pos (by omega), if_neg (by omega), show k + 1 - 2 = k - 1 by omega, show k + 1 - 1 = k by omega, show k + 1 - 3 = k - 2 by omega]
  iintro H
  isplitl [H]; · iexact H
  isplitr <;> iapply emp_holds

/-- A program's first part, then the rest. -/
theorem seqV {c : Dev nD} {α β : Type} {e : Prog (TpuEff nD τ sig (Elt F) Λ₀ .tc) α} {k : α → Prog (TpuEff nD τ sig (Elt F) Λ₀ .tc) β}
    {P R : sProp 𝕄} {Q : α → sProp 𝕄} {Φ : β → sProp 𝕄}
    (h : P ⊢ wp frame (wpE (defs₀ (F := F)) 𝒱₀ c none) Set.univ e Q)
    (hk : ∀ a, iprop(R ∗ Q a) ⊢ wp frame (wpE (defs₀ (F := F)) 𝒱₀ c none) Set.univ (k a) Φ) :
    iprop(P ∗ R) ⊢ wp frame (wpE (defs₀ (F := F)) 𝒱₀ c none) Set.univ (e >>= k) Φ := by
  rw [wp_bind]
  iintro ⟨HP, HR⟩
  iapply (stepV h) $$ [HP]
  · iexact HP
  iintro %a HQ
  iapply (hk a)
  isplitl [HR]; · iexact HR
  iexact HQ

/-- The same for a step that returns nothing. -/
theorem seqS {c : Dev nD} {e : Prog (TpuEff nD τ sig (Elt F) Λ₀ .tc) PUnit} {P R Q : sProp 𝕄} {Φ : PUnit → sProp 𝕄}
    (h : P ⊢ wp frame (wpE (defs₀ (F := F)) 𝒱₀ c none) Set.univ e fun _ => Q) (hk : iprop(R ∗ Q) ⊢ Φ ⟨⟩) :
    iprop(P ∗ R) ⊢ wp frame (wpE (defs₀ (F := F)) 𝒱₀ c none) Set.univ e Φ := by
  iintro ⟨HP, HR⟩
  iapply (step h) $$ [HP]
  · iexact HP
  iintro HQ
  iapply hk
  isplitl [HR]; · iexact HR
  iexact HQ

/-- A step under a fact that persists, among others it leaves alone. -/
theorem seqK {c : Dev nD} {e : Prog (TpuEff nD τ sig (Elt F) Λ₀ .tc) PUnit} {P A B R : sProp 𝕄} [Persistent P] {Φ : PUnit → sProp 𝕄}
    (h : iprop(P ∗ A) ⊢ wp frame (wpE (defs₀ (F := F)) 𝒱₀ c none) Set.univ e fun _ => B) (hk : iprop(P ∗ B ∗ R) ⊢ Φ ⟨⟩) :
    iprop(P ∗ A ∗ R) ⊢ wp frame (wpE (defs₀ (F := F)) 𝒱₀ c none) Set.univ e Φ := by
  iintro ⟨#HP, HA, HR⟩
  iapply (step h) $$ [HA]
  · isplitr; · iexact HP
    iexact HA
  iintro HB
  iapply hk
  isplitr; · iexact HP
  isplitl [HB]; · iexact HB
  iexact HR

/-- A pure fact in the middle. -/
theorem pure_mid {φ : Prop} {R X G : sProp 𝕄} (h : φ → iprop(R ∗ X) ⊢ G) : iprop(R ∗ ⌜φ⌝ ∗ X) ⊢ G := by
  iintro ⟨HR, %hφ, HX⟩
  iapply (h hφ)
  isplitl [HR]; · iexact HR
  iexact HX

/-- One grid point: the tile of the product is stored, and whatever the point waits for or sends. -/
theorem body_spec (K : GSem nD τ sig → ℕ) (t : Fin grid0.N)
    (A2 : Memref sig .tc .vmem S512x4096 .f32) (h2 : A2.IsWhole) (A3 : Memref sig .tc .vmem S4096x512 .f32) (h3 : A3.IsWhole)
    (A4 : Memref sig .tc .vmem S512x512 .bf16) (h4 : A4.IsWhole) (h5 h6) (Z : S512x512.Idx → Elt F .bf16) :
    iprop(Know m K ∗ Before m c t.val ∗ owns (c : Thread nD τ) A2 fullShare (xblk m c (t.val % 4))
        ∗ owns (c : Thread nD τ) A3 fullShare (wblk m c (t.val / 4)) ∗ owns (c : Thread nD τ) A4 fullShare Z)
      ⊢ wp frame (wpE (defs₀ (F := F)) 𝒱₀ c none) Set.univ
          (cc0__mm_send_body (F := F) (grid0.coords t) A2 h2 A3 h3 A4 h4 (Memref.whole main_v1_1) h5 (Memref.whole cc0_scratch0) h6
            cc0_scratch1 cc0_scratch2 cc0_scratch3 cc0_scratch4) fun _ =>
        iprop(After m c t.val ∗ owns (c : Thread nD τ) A2 fullShare (xblk m c (t.val % 4))
          ∗ owns (c : Thread nD τ) A3 fullShare (wblk m c (t.val / 4))
          ∗ owns (c : Thread nD τ) A4 fullShare (k0_pay1 (prod m c (t.val % 4) (t.val / 4)))) := by
  have h64 := lt64 t
  have hx := xOf_le c
  rw [cc0__mm_send_body_eq_skeleton]
  unfold cc0__mm_send_body_skel
  refine BI.Entails.trans (show _ ⊢ iprop((Know m K ∗ Before m c t.val ∗ owns (c : Thread nD τ) A2 fullShare (xblk m c (t.val % 4))
        ∗ owns (c : Thread nD τ) A3 fullShare (wblk m c (t.val / 4))) ∗ (Know m K ∗ owns (c : Thread nD τ) A4 fullShare Z)) from ?_) ?_
  · iintro ⟨#Hk, Hst, H2, H3, H4⟩
    isplitr [H4]
    · isplitr; · iexact Hk
      isplitl [Hst]; · iexact Hst
      isplitl [H2]; · iexact H2
      iexact H3
    · isplitr; · iexact Hk
      iexact H4
  refine seqV (part6 m c K t A2 h2 A3 h3 A4 h4 h5 h6 (xblk m c (t.val % 4)) (wblk m c (t.val / 4))) ?_
  rintro ⟨a0, a1, d0, v2, v5, v8, v9, v10, v11, v12, v14, v32⟩
  refine pure_mid ?_
  rintro ⟨hd, hv⟩
  change d0 = c at hd
  change v32 = prod m c (t.val % 4) (t.val / 4) at hv
  subst hd hv
  dsimp -zeta only
  extract_lets J0 v198 v199 v212 v213 J7 Jm J4
  generalize hΦ : (fun _ : PUnit => iprop(After m d0 t.val ∗ owns (d0 : Thread nD τ) A2 fullShare (xblk m d0 (t.val % 4))
          ∗ owns (d0 : Thread nD τ) A3 fullShare (wblk m d0 (t.val / 4))
          ∗ owns (d0 : Thread nD τ) A4 fullShare (k0_pay1 (prod m d0 (t.val % 4) (t.val / 4))))) = Φ
  -- the end: nothing more
  have hJ0 : iprop((if t.val = 63 then Done m d0 else Start m d0 (t.val + 1)) ∗ semVal (barC d0) 0
      ∗ owns (d0 : Thread nD τ) A2 fullShare (xblk m d0 (t.val % 4)) ∗ owns (d0 : Thread nD τ) A3 fullShare (wblk m d0 (t.val / 4))
      ∗ owns (d0 : Thread nD τ) A4 fullShare (k0_pay1 (prod m d0 (t.val % 4) (t.val / 4))))
      ⊢ wp frame (wpE (defs₀ (F := F)) 𝒱₀ d0 none) Set.univ (J0 ⟨⟩) Φ := by
    subst hΦ
    show _ ⊢ wp frame (wpE (defs₀ (F := F)) 𝒱₀ d0 none) Set.univ (pure _) _
    rw [wp_pure]
    unfold After
    iintro ⟨H, Hs, H2, H3, H4⟩
    imodintro
    isplitl [H Hs]
    · isplitl [H]; · iexact H
      iexact Hs
    isplitl [H2]; · iexact H2
    isplitl [H3]; · iexact H3
    iexact H4
  clear hΦ
  clear_value J0
  generalize hR : (iprop(semVal (barC d0) 0
      ∗ owns (d0 : Thread nD τ) A2 fullShare (xblk m d0 (t.val % 4)) ∗ owns (d0 : Thread nD τ) A3 fullShare (wblk m d0 (t.val / 4))
      ∗ owns (d0 : Thread nD τ) A4 fullShare (k0_pay1 (prod m d0 (t.val % 4) (t.val / 4)))) : sProp 𝕄) = R at hJ0
  -- the last point's waits
  have hJ7 : iprop(Know m K ∗ Start m d0 (t.val + 1) ∗ R)
      ⊢ wp frame (wpE (defs₀ (F := F)) 𝒱₀ d0 none) Set.univ (J7 ⟨⟩) Φ := by
    unfold J7
    by_cases c7 : k0_cond7 (grid0.coords t) = 1#1
    · have ht := (cond7_iff t).mp c7
      rw [dif_pos c7]
      rw [if_pos ht] at hJ0
      rw [ht]
      refine BI.Entails.trans (sep_mono_right (sep_mono_left (start_last m d0))) ?_
      show _ ⊢ wp _ _ _ _ _
      simp only [wp_bind]
      iintro ⟨#Hk, H, HR⟩
      iapply (stepV (part1 m d0 K t A2 h2 A3 h3 A4 h4 h5 h6 _ _ _ _ _ c7)) $$ [H]
      · isplitr; · iexact Hk
        iexact H
      iintro %v46 H
      iapply (stepV (part2 m d0 K t A2 h2 A3 h3 A4 h4 h5 h6 _ c7 v46)) $$ [H]
      · isplitr; · iexact Hk
        iexact H
      iintro %u ⟨Hs0, Hs1, H⟩
      iapply (stepV (part3 m d0 K t A2 h2 A3 h3 A4 h4 h5 h6 _ _ _ _ c7)) $$ [H]
      · isplitr; · iexact Hk
        iexact H
      iintro %w3 H
      iapply (stepV (part4 m d0 K t A2 h2 A3 h3 A4 h4 h5 h6 _ _ _ _ c7 w3)) $$ [H]
      · isplitr; · iexact Hk
        iexact H
      iintro %w4 H
      iapply (stepV (part5 m d0 K t A2 h2 A3 h3 A4 h4 h5 h6 _ _ _ _ c7 w4.1 w4.2)) $$ [H]
      · isplitr; · iexact Hk
        iexact H
      iintro %w5 H
      iapply (step (core_xr m K d0 8 8 8 6 (by decide) (sem_xr _ 6 (by decide) rfl _))) $$ [H]
      · isplitr; · iexact Hk
        iexact H
      iintro H
      iapply (step (core_xr m K d0 8 8 8 7 (by decide) (sem_xr _ 7 (by decide) rfl _))) $$ [H]
      · isplitr; · iexact Hk
        iexact H
      iintro H
      iapply fupd_wp
      imod (core_close m d0 K) $$ [Hs0 Hs1 H] with Hdone
      · isplitr; · iexact Hk
        isplitl [Hs0]; · iexact Hs0
        isplitl [Hs1]; · iexact Hs1
        iexact H
      imodintro
      iapply hJ0
      isplitl [Hdone]; · iexact Hdone
      iexact HR
    · have ht : ¬ t.val = 63 := fun h => c7 ((cond7_iff t).mpr h)
      rw [dif_neg c7]
      rw [if_neg ht] at hJ0
      iintro ⟨-, H, HR⟩
      iapply hJ0
      isplitl [H]; · iexact H
      iexact HR
  clear hJ0
  clear_value J7
  have hJm : iprop(Know m K ∗ Start m d0 (t.val + 1) ∗ R)
      ⊢ wp frame (wpE (defs₀ (F := F)) 𝒱₀ d0 none) Set.univ (Jm ⟨⟩) Φ := hJ7
  clear_value Jm
  -- the block sent, the previous one forwarded
  have hJ4 : iprop(Know m K ∗ (if mine d0 t.val then SM m d0 (qN d0 t.val) (t.val % 4 + 1) else Start m d0 (t.val + 1)) ∗ R)
      ⊢ wp frame (wpE (defs₀ (F := F)) 𝒱₀ d0 none) Set.univ (J4 ⟨⟩) Φ := by
    unfold J4
    by_cases c4 : k0_cond4 (grid0.coords t) d0 = 1#1
    · obtain ⟨e3, hm⟩ := (cond4_iff t d0).mp c4
      rw [dif_pos c4, if_pos hm, e3]
      have hq : qN d0 t.val = t.val / 8 := by unfold qN; omega
      have hs := sent m d0 t.val h64 hm e3
      rw [hq] at hs ⊢
      have hj : t.val / 4 = 2 * (t.val / 8) + xOf d0 := by omega
      have o5 : k0_off5 (grid0.coords t) = ![t.val / 8 % 2] := (k0_off5_eq _).trans (by rw [coord0]; congr 1; omega)
      have o6 : k0_off6 (grid0.coords t) = ![t.val / 8 % 8] := (k0_off6_eq _).trans (by rw [coord0]; congr 1; omega)
      have o7 : k0_off7 (grid0.coords t) = ![0, 512 * (2 * (t.val / 8) + xOf d0)] := (k0_off7_eq _).trans (by rw [coord0, hj])
      have o8 : k0_off8 (grid0.coords t) = ![t.val / 8 % 2, 0, 0] := (k0_off8_eq _).trans (by rw [coord0]; congr 1; omega)
      show _ ⊢ wp _ _ _ _ _
      simp only [wp_bind]
      refine BI.Entails.trans (show _ ⊢ iprop((Know m K ∗ slotK m d0 (t.val / 8) 2048
        ∗ Core m d0 (t.val / 8) (t.val / 8 - 1) (t.val / 8 - 1) (t.val / 8 - 1) (t.val / 8 - 3) 0) ∗ (Know m K ∗ spare d0 (t.val / 8) ∗ R)) from ?_) ?_
      · unfold SM
        iintro ⟨#Hk, ⟨H, Hslot, Hsp⟩, HR⟩
        isplitr [Hsp HR]
        · isplitr; · iexact Hk
          isplitl [Hslot]; · iexact Hslot
          iexact H
        · isplitr; · iexact Hk
          isplitl [Hsp]; · iexact Hsp
          iexact HR
      refine seqS (core_send m K d0 (t.val / 8) (t.val / 8 - 1) (t.val / 8 - 1) (t.val / 8 - 1) (t.val / 8 - 3) 0 (by omega) (by omega) (by omega)
        (dev3_eq d0 _) ((slot_of _ (t.val / 8 % 2) (by omega) o8 _ _).trans (slotM_mod _ _ (by omega))) (blk_of _ _ (by omega) o7 _ _)
        (sem_zs _ (t.val / 8 % 2) (by omega) o5 _) (sem_zr _ (t.val / 8 % 8) (by omega) o6 _)) ?_
      by_cases c5 : k0_cond5 (grid0.coords t) = 1#1
      · have h1 := (cond5_iff t).mp c5
        have o9 := off9_eq t h1
        have o10 : k0_off10 (grid0.coords t) = ![0, 512 * (2 * (t.val / 8 - 1) + xOf d0)] :=
          (off10_eq t h1).trans (by rw [hj, show 2 * (t.val / 8) + xOf d0 - 2 = 2 * (t.val / 8 - 1) + xOf d0 by omega])
        have o14 := off14_eq t h1
        have hst : iprop(Know m K ∗ Core m d0 (t.val / 8 + 1) (t.val / 8 - 1) (t.val / 8) (t.val / 8) (t.val / 8 - 2) 0 ∗ R) ⊢
            iprop(Know m K ∗ Start m d0 (t.val + 1) ∗ R) := sep_mono_right (sep_mono_left ((St_of m d0 (t.val / 8) h1).trans hs))
        have hfin := hst.trans hJm
        clear hst
        have s9 : ∀ h, ((cc0_scratch3.slice (Rect.unit (k0_off9 (grid0.coords t)) S1.size h)).squeeze S_ squeezes_S1_S_).sem
            = dsem (10 + (t.val / 8 - 1) % 8) := fun h => by
          rw [show (t.val / 8 - 1) % 8 = t.val / 8 - 1 by omega]; exact sem_zr _ (t.val / 8 - 1) (by omega) o9 h
        have s9' : ∀ h, ((cc0_scratch4.slice (Rect.unit (k0_off9 (grid0.coords t)) S1.size h)).squeeze S_ squeezes_S1_S_).sem
            = dsem (18 + (t.val / 8 - 1) % 8) := fun h => by
          rw [show (t.val / 8 - 1) % 8 = t.val / 8 - 1 by omega]; exact sem_xr _ (t.val / 8 - 1) (by omega) o9 h
        rw [dif_pos c5]
        show _ ⊢ wp _ _ _ _ _
        simp only [wp_bind]
        refine BI.Entails.trans (show _ ⊢ iprop(Know m K
          ∗ Core m d0 (t.val / 8 + 1) (t.val / 8 - 1) (t.val / 8 - 1) (t.val / 8 - 1) (t.val / 8 - 3) 0 ∗ R) from ?_) ?_
        · iintro ⟨⟨#Hk, -, HR⟩, H⟩
          isplitr; · iexact Hk
          isplitl [H]; · iexact H
          iexact HR
        refine seqK (core_zr m K d0 (t.val / 8 + 1) (t.val / 8 - 1) (t.val / 8 - 1) (t.val / 8 - 1) (t.val / 8 - 3) 0 (by omega) (by omega) (by omega) (s9 _)) ?_
        by_cases c6 : k0_cond6 (grid0.coords t) = 1#1
        · have h3 := (cond6_iff t).mp c6
          have o12 := off12_eq t h3
          rw [dif_pos c6]
          show _ ⊢ wp _ _ _ _ _
          simp only [wp_bind]
          refine seqK (core_fs m K d0 (t.val / 8 + 1) (t.val / 8 - 1) (t.val / 8 - 1 + 1) (t.val / 8 - 1) (t.val / 8 - 3) 0 (by omega) (by omega)
            (by rw [show (t.val / 8 - 3) % 2 = (t.val / 8 - 1) % 2 by omega]; exact sem_fs _ _ (by omega) o12 _)) ?_
          refine seqK (core_fwd m K d0 (t.val / 8 + 1) (t.val / 8 - 1) (t.val / 8 - 1 + 1) (t.val / 8 - 1) (t.val / 8 - 3 + 1) 0 (by omega) (by omega)
            (by omega) (by omega) (dev4_eq d0 _) (blk_of _ _ (by omega) o10 _ _) (blk_of _ _ (by omega) o10 _ _) (sem_fs _ _ (by omega) o14 _) (s9' _)) ?_
          rw [show t.val / 8 - 1 + 1 = t.val / 8 by omega, show t.val / 8 - 3 + 1 = t.val / 8 - 2 by omega]
          exact hfin
        · have h3 : t.val / 8 < 3 := Nat.lt_of_not_le fun h => c6 ((cond6_iff t).mpr h)
          rw [dif_neg c6]
          show _ ⊢ wp _ _ _ _ _
          simp only [wp_bind]
          refine seqK (core_fwd m K d0 (t.val / 8 + 1) (t.val / 8 - 1) (t.val / 8 - 1 + 1) (t.val / 8 - 1) (t.val / 8 - 3) 0 (by omega) (by omega)
            (by omega) (by omega) (dev4_eq d0 _) (blk_of _ _ (by omega) o10 _ _) (blk_of _ _ (by omega) o10 _ _) (sem_fs _ _ (by omega) o14 _) (s9' _)) ?_
          rw [show t.val / 8 - 1 + 1 = t.val / 8 by omega, show t.val / 8 - 3 = t.val / 8 - 2 by omega]
          exact hfin
      · have h1 : t.val / 8 = 0 := Nat.eq_zero_of_not_pos fun h => c5 ((cond5_iff t).mpr h)
        rw [dif_neg c5]
        refine BI.Entails.trans ?_ hJm
        rw [h1] at hs ⊢
        refine BI.Entails.trans (show _ ⊢ iprop(Know m K ∗ St m d0 (0 + 1) ∗ R) from ?_) (sep_mono_right (sep_mono_left hs))
        unfold St spare
        rw [if_pos rfl, if_neg (by decide), if_neg (by decide)]
        iintro ⟨⟨#Hk, Hsp, HR⟩, H⟩
        isplitr; · iexact Hk
        isplitr [HR]
        · isplitl [H]; · iexact H
          isplitl [Hsp]; · iapply (slotK_zero m d0 1); iexact Hsp
          iapply emp_holds
        · iexact HR
    · rw [dif_neg c4]
      refine BI.Entails.trans ?_ hJ7
      by_cases hm : mine d0 t.val
      · rw [if_pos hm]
        exact sep_mono_right (sep_mono_left (filled m d0 t.val h64 hm fun h => c4 ((cond4_iff t d0).mpr ⟨h, hm⟩)))
      · rw [if_neg hm]
        exact BI.Entails.refl _
  clear hJ7 hJm
  clear_value J4
  subst hR
  refine BI.Entails.trans (show _ ⊢ iprop(owns (d0 : Thread nD τ) A4 fullShare Z ∗ (Know m K ∗ Mid m d0 t.val ∗ semVal (barC d0) 0
      ∗ owns (d0 : Thread nD τ) A2 fullShare (xblk m d0 (t.val % 4)) ∗ owns (d0 : Thread nD τ) A3 fullShare (wblk m d0 (t.val / 4)))) from ?_) ?_
  · iintro ⟨⟨#Hk, H4⟩, H2, H3, Hst, Hsem⟩
    isplitl [H4]; · iexact H4
    isplitr; · iexact Hk
    isplitl [Hst]; · iexact Hst
    isplitl [Hsem]; · iexact Hsem
    isplitl [H2]; · iexact H2
    iexact H3
  refine seqV (load_owns A4 fullShare Z rfl) ?_
  intro z0
  refine BI.Entails.trans (show _ ⊢ iprop(owns (d0 : Thread nD τ) A4 fullShare Z ∗ (Know m K ∗ Mid m d0 t.val ∗ semVal (barC d0) 0
      ∗ owns (d0 : Thread nD τ) A2 fullShare (xblk m d0 (t.val % 4)) ∗ owns (d0 : Thread nD τ) A3 fullShare (wblk m d0 (t.val / 4)))) from ?_) ?_
  · iintro ⟨HR, -, H4⟩
    isplitl [H4]; · iexact H4
    iexact HR
  refine seqV (store_owns A4 Z rfl _) ?_
  intro u
  refine BI.Entails.trans (show _ ⊢ iprop(Mid m d0 t.val ∗ (Know m K ∗ semVal (barC d0) 0
      ∗ owns (d0 : Thread nD τ) A2 fullShare (xblk m d0 (t.val % 4)) ∗ owns (d0 : Thread nD τ) A3 fullShare (wblk m d0 (t.val / 4))
      ∗ owns (d0 : Thread nD τ) A4 fullShare (k0_pay1 (prod m d0 (t.val % 4) (t.val / 4))))) from ?_) ?_
  · iintro ⟨⟨#Hk, HM, Hs, H2, H3⟩, H4⟩
    isplitl [HM]; · iexact HM
    isplitr; · iexact Hk
    isplitl [Hs]; · iexact Hs
    isplitl [H2]; · iexact H2
    isplitl [H3]; · iexact H3
    iexact H4
  unfold Mid
  by_cases c3 : k0_cond3 (grid0.coords t) d0 = 1#1
  · have hm : mine d0 t.val := (cond3_iff t d0).mp c3
    have hj : t.val / 4 = 2 * qN d0 t.val + xOf d0 := by unfold qN; unfold mine at hm; omega
    have o4 : k0_off4 (grid0.coords t) = ![qN d0 t.val % 2, 512 * (t.val % 4), 0] :=
      (k0_off4_eq _).trans (by rw [coord0, coord1]; congr 1; unfold qN; unfold mine at hm; omega)
    rw [if_pos hm] at hJ4
    rw [dif_pos c3, if_pos hm]
    unfold SM
    refine BI.Entails.trans (show _ ⊢ iprop(slotK m d0 (qN d0 t.val) (512 * (t.val % 4)) ∗ _) from ?_)
      (seqV (R := iprop(Core m d0 (qN d0 t.val) (qN d0 t.val - 1) (qN d0 t.val - 1) (qN d0 t.val - 1) (qN d0 t.val - 3) 0 ∗ spare d0 (qN d0 t.val)
        ∗ Know m K ∗ semVal (barC d0) 0
      ∗ owns (d0 : Thread nD τ) A2 fullShare (xblk m d0 (t.val % 4)) ∗ owns (d0 : Thread nD τ) A3 fullShare (wblk m d0 (t.val / 4))
      ∗ owns (d0 : Thread nD τ) A4 fullShare (k0_pay1 (prod m d0 (t.val % 4) (t.val / 4)))))
      (tile_load m d0 (qN d0 t.val) (512 * (t.val % 4)) (t.val % 4) (by omega) o4) ?_)
    · iintro ⟨⟨H, Hs, Hsp⟩, HR⟩
      isplitl [Hs]; · iexact Hs
      isplitl [H]; · iexact H
      isplitl [Hsp]; · iexact Hsp
      iexact HR
    intro v
    refine BI.Entails.trans sep_comm ?_
    refine seqV (tile_store m d0 (qN d0 t.val) (t.val % 4) (by omega) o4 _ (by rw [hj])) ?_
    intro v'
    refine BI.Entails.trans (show _ ⊢ iprop(Know m K ∗ SM m d0 (qN d0 t.val) (t.val % 4 + 1) ∗ semVal (barC d0) 0
      ∗ owns (d0 : Thread nD τ) A2 fullShare (xblk m d0 (t.val % 4)) ∗ owns (d0 : Thread nD τ) A3 fullShare (wblk m d0 (t.val / 4))
      ∗ owns (d0 : Thread nD τ) A4 fullShare (k0_pay1 (prod m d0 (t.val % 4) (t.val / 4)))) from ?_) hJ4
    unfold SM
    iintro ⟨⟨H, Hsp, Hk, HR⟩, Hs⟩
    isplitl [Hk]; · iexact Hk
    isplitr [HR]
    · isplitl [H]; · iexact H
      isplitl [Hs]; · iexact Hs
      iexact Hsp
    · iexact HR
  · have hm : ¬ mine d0 t.val := fun h => c3 ((cond3_iff t d0).mpr h)
    rw [if_neg hm] at hJ4
    rw [dif_neg c3]
    refine BI.Entails.trans (show _ ⊢ iprop(Know m K ∗ Start m d0 (t.val + 1) ∗ semVal (barC d0) 0
      ∗ owns (d0 : Thread nD τ) A2 fullShare (xblk m d0 (t.val % 4)) ∗ owns (d0 : Thread nD τ) A3 fullShare (wblk m d0 (t.val / 4))
      ∗ owns (d0 : Thread nD τ) A4 fullShare (k0_pay1 (prod m d0 (t.val % 4) (t.val / 4)))) from ?_) hJ4
    have hid := idle m d0 t.val h64 hm
    unfold Mid at hid
    rw [if_neg hm] at hid ⊢
    iintro ⟨H, Hk, HR⟩
    isplitl [Hk]; · iexact Hk
    isplitl [H]
    · iapply hid; iexact H
    · iexact HR

end Cert.KernelIdeal.Run
-- ==== Proof.Split.lean ====
module

public import proofs.«01_k».proof.Proof.Body

@[expose] public section

/-!
# The buffers and their pieces

The receive buffer is sixteen column blocks, eight of each parity; the send buffer is
two slots.  Here they are cut into these pieces and put together again.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The elements of column block `j`, as elements of device `c`'s receive buffer. -/
def blkSet (c : Dev nD) (j : ℕ) : Finset (Idx (recvLoc c)) := (blk j).view.set

/-- The elements of slot `s`, as elements of device `c`'s send buffer. -/
def slotSet (c : Dev nD) (s : ℕ) : Finset (Idx (sendLoc c)) := (slotM s).view.set

/-- Which elements lie in a block of a device's receive array. -/
theorem mem_blkSet (c : Dev nD) (j : ℕ) (z : S2048x8192.Idx) :
    (show Idx (recvLoc c) from z) ∈ blkSet c j ↔ (z 1).val / 512 = j % 16 := mem_blk j z

/-- Which elements lie in a slot of a device's send buffer. -/
theorem mem_slotSet (c : Dev nD) (s : ℕ) (z : S2x2048x512.Idx) :
    (show Idx (sendLoc c) from z) ∈ slotSet c s ↔ (z 0).val = s % 2 := mem_slot s z

/-- Column blocks of one parity do not meet. -/
theorem blk_apart (c : Dev nD) (p : ℕ) (hp : p ≤ 1) :
    ∀ t ∈ Finset.Ico 0 8, ∀ t' ∈ Finset.Ico 0 8, t ≠ t' → Disjoint (blkSet c (2 * t + p)) (blkSet c (2 * t' + p)) := by
  intro t ht t' ht' hne
  rw [Finset.mem_Ico] at ht ht'
  refine Finset.disjoint_left.mpr fun z h h' => ?_
  have e := (mem_blkSet c _ z).mp h
  have e' := (mem_blkSet c _ z).mp h'
  omega

/-- The eight column blocks of parity `p`. -/
def half (c : Dev nD) (p : ℕ) : Finset (Idx (recvLoc c)) := (Finset.Ico 0 8).biUnion fun k => blkSet c (2 * k + p)

/-- Which elements lie in the blocks of one parity. -/
theorem mem_half (c : Dev nD) (p : ℕ) (hp : p ≤ 1) (z : S2048x8192.Idx) :
    (show Idx (recvLoc c) from z) ∈ half c p ↔ (z 1).val / 512 % 2 = p := by
  have hz : (z 1).val < 8192 := (z 1).isLt
  unfold half
  rw [Finset.mem_biUnion]
  constructor
  · rintro ⟨k, hk, h⟩
    rw [Finset.mem_Ico] at hk
    have e := (mem_blkSet c _ z).mp h
    omega
  · intro h
    refine ⟨(z 1).val / 512 / 2, Finset.mem_Ico.mpr (by omega), (mem_blkSet c _ z).mpr (by omega)⟩

/-- The blocks of the two parities are apart. -/
theorem half_apart (c : Dev nD) (p : ℕ) (hp : p ≤ 1) : Disjoint (half c p) (half c (1 - p)) := by
  refine Finset.disjoint_left.mpr fun z h h' => ?_
  have e := (mem_half c p hp z).mp h
  have e' := (mem_half c (1 - p) (by omega) z).mp h'
  omega

/-- The blocks of the two parities make up the receive array. -/
theorem half_all (c : Dev nD) (p : ℕ) (hp : p ≤ 1) : (Finset.univ : Finset (Idx (recvLoc c))) = half c p ∪ half c (1 - p) := by
  refine (Finset.eq_univ_iff_forall.mpr fun z => ?_).symm
  rw [Finset.mem_union]
  by_cases h : ((show S2048x8192.Idx from z) 1).val / 512 % 2 = p
  · exact Or.inl ((mem_half c p hp z).mpr h)
  · have q : ((show S2048x8192.Idx from z) 1).val / 512 % 2 = 1 - p := by omega
    exact Or.inr ((mem_half c (1 - p) (by omega) z).mpr q)

/-- The receive array is its sixteen blocks, by parity. -/
theorem recv_pieces (c : Dev nD) (p : ℕ) (hp : p ≤ 1) (f : Buf (Elt F) (recvLoc c)) :
    ((recvLoc c ↦{fullShare} f) : sProp 𝕄)
      ⊣⊢ iprop((bigSep (Finset.Ico 0 8) fun k => recvLoc c ↦[blkSet c (2 * k + p)]{fullShare} f)
        ∗ bigSep (Finset.Ico 0 8) fun k => recvLoc c ↦[blkSet c (2 * k + (1 - p))]{fullShare} f) := by
  have e : ((recvLoc c ↦{fullShare} f) : sProp 𝕄) = recvLoc c ↦[half c p ∪ half c (1 - p)]{fullShare} f := by
    rw [← half_all c p hp]
  have a : ((recvLoc c ↦[half c p]{fullShare} f) : sProp 𝕄)
      = bigSep (Finset.Ico 0 8) fun k => recvLoc c ↦[blkSet c (2 * k + p)]{fullShare} f :=
    pointsTo_biUnion _ _ (blk_apart c p hp)
  have b : ((recvLoc c ↦[half c (1 - p)]{fullShare} f) : sProp 𝕄)
      = bigSep (Finset.Ico 0 8) fun k => recvLoc c ↦[blkSet c (2 * k + (1 - p))]{fullShare} f :=
    pointsTo_biUnion _ _ (blk_apart c (1 - p) (by omega))
  rw [e, ← a, ← b]
  exact pointsTo_union (half_apart c p hp)

/-- The receive buffer at any contents is its sixteen blocks. -/
theorem recv_split (c : Dev nD) (f : Buf (Elt F) (recvLoc c)) :
    ((recvLoc c ↦{fullShare} f) : sProp 𝕄)
      ⊢ iprop((bigSep (Finset.Ico 0 8) fun k => blkAny c (2 * k + xOf c))
        ∗ bigSep (Finset.Ico 0 8) fun k => blkAny c (2 * k + xOf (xp c))) := by
  rw [xOf_xp]
  have e (j : ℕ) : ((recvLoc c ↦[blkSet c j]{fullShare} f) : sProp 𝕄) ⊢ blkAny c j := by
    unfold blkAny; iintro H; iexists f; iexact H
  exact (recv_pieces c (xOf c) (xOf_le c) f).1.trans
    (BI.sep_mono (bigSep_mono fun k _ => e _) (bigSep_mono fun k _ => e _))

/-- The sixteen blocks, each at its part of the received table, are the whole buffer at that table. -/
theorem recv_join (m : (ℓ : Loc nD τ sig) → Buf (Elt F) ℓ) (c : Dev nD) :
    iprop((bigSep (Finset.Ico 0 8) fun k => blkAt m c (2 * k + xOf c))
        ∗ bigSep (Finset.Ico 0 8) fun k => blkAt m c (2 * k + xOf (xp c)))
      ⊢ ((recvLoc c ↦{fullShare} (RECV m c)) : sProp 𝕄) := by
  rw [xOf_xp]
  exact (recv_pieces c (xOf c) (xOf_le c) (RECV m c)).2

/-- The two slots make up the send buffer. -/
theorem slot_all (c : Dev nD) : (Finset.univ : Finset (Idx (sendLoc c))) = slotSet c 0 ∪ slotSet c 1 := by
  refine (Finset.eq_univ_iff_forall.mpr fun z => ?_).symm
  have h : ((show S2x2048x512.Idx from z) 0).val < 2 := ((show S2x2048x512.Idx from z) 0).isLt
  rw [Finset.mem_union]
  by_cases h0 : ((show S2x2048x512.Idx from z) 0).val = 0
  · exact Or.inl ((mem_slotSet c 0 z).mpr h0)
  · have q : ((show S2x2048x512.Idx from z) 0).val = 1 := by
      have h' : ((show S2x2048x512.Idx from z) 0).val < 2 := h
      omega
    exact Or.inr ((mem_slotSet c 1 z).mpr q)

/-- The two slots are apart. -/
theorem slot_apart (c : Dev nD) : Disjoint (slotSet c 0) (slotSet c 1) := by
  refine Finset.disjoint_left.mpr fun z h h' => ?_
  have e := (mem_slotSet c 0 z).mp h
  have e' := (mem_slotSet c 1 z).mp h'
  omega

/-- The send buffer at any contents is its two slots. -/
theorem send_split (c : Dev nD) :
    (iprop(∃ f, sendLoc c ↦{fullShare} f) : sProp 𝕄) ⊢ iprop(slotAny c 0 ∗ slotAny c 1) := by
  unfold slotAny
  iintro ⟨%f, H⟩
  have e : ((sendLoc c ↦{fullShare} f) : sProp 𝕄) = sendLoc c ↦[slotSet c 0 ∪ slotSet c 1]{fullShare} f := by
    rw [← slot_all c]
  ihave H := ((Entails.of_eq e).trans (pointsTo_union (slot_apart c)).1) $$ H
  icases H with ⟨H0, H1⟩
  isplitl [H0]
  · iexists f; iexact H0
  · iexists f; iexact H1

/-- The two slots are the send buffer at some contents. -/
theorem send_join (c : Dev nD) :
    (iprop(slotAny c 0 ∗ slotAny c 1) : sProp 𝕄) ⊢ iprop(∃ f, sendLoc c ↦{fullShare} f) := by
  unfold slotAny
  have e (f : Buf (Elt F) (sendLoc c)) :
      ((sendLoc c ↦[slotSet c 0 ∪ slotSet c 1]{fullShare} f) : sProp 𝕄) = sendLoc c ↦{fullShare} f := by
    rw [← slot_all c]
  refine (show _ ⊢ iprop(∃ f, sendLoc c ↦[slotSet c 0 ∪ slotSet c 1]{fullShare} f) from ?_).trans
    (exists_mono fun f => Entails.of_eq (e f))
  iintro ⟨⟨%f, H0⟩, ⟨%g, H1⟩⟩
  iexists (slotSet c 1).piecewise g f
  iapply (pointsTo_join (slot_apart c))
  isplitl [H0]
  · iexact H0
  · iexact H1

end Cert.KernelIdeal.Run
-- ==== Proof.Grid.lean ====
module

public import proofs.«01_k».proof.Proof.Split
public import proofs.«01_k».proof.Proof.Gen.KernelIdeal.Regions
public import Idealize.ShloMosaic.Lib.Pipeline.RegionTalk
public import Idealize.ShloMosaic.Lib.Pipeline.ValueKit

@[expose] public section

/-!
# The first call over its grid

What a device holds before each of the 64 points, what the windows stage, and what
the local product is once every tile is written.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (c : Dev nD)

/-- What the device owes before point `t`. -/
def owedAt (t : ℕ) : CellTallies nD τ sig Unit :=
  if t = 0 then O₀ c else if t = 64 then 0 else owed c (qN c t) (qN c t - 1)

/-- What a device holds when the last point is done, what it owes apart. -/
def Left : sProp 𝕄 :=
  iprop((bigSep (Finset.Ico 0 8) fun k => blkAt m c (2 * k + xOf c)) ∗ (bigSep (Finset.Ico 0 8) fun k => blkAt m c (2 * k + xOf (xp c)))
    ∗ slotAny c 0 ∗ slotAny c 1
    ∗ semVal (zsC c 0) 0 ∗ semVal (zsC c 1) 0 ∗ semVal (fsC c 0) 0 ∗ semVal (fsC c 1) 0
    ∗ (bigSep (Finset.Ico 0 8) fun k => semVal (zrC c k) 0) ∗ (bigSep (Finset.Ico 0 8) fun k => semVal (xrC c k) 0)
    ∗ semVal (barC c) 0)

/-- What a device holds before point `t`, what it owes apart. -/
def Hold (t : ℕ) : sProp 𝕄 :=
  if t = 64 then Left m c else iprop(∃ K, Know m K ∗ (owing c (owedAt c t) -∗ Before m c t))

/-- Taking out of a state what the device owes there. -/
def Lent (A : sProp 𝕄) (O : CellTallies nD τ sig Unit) : Prop := A ⊢ iprop(owing c O ∗ (owing c O -∗ A))

/-- What can be lent out of a state can be lent with more beside it on the right. -/
theorem Lent.beside {A : sProp 𝕄} {O : CellTallies nD τ sig Unit} (h : Lent c A O) (B : sProp 𝕄) : Lent c iprop(A ∗ B) O := by
  unfold Lent at h ⊢
  iintro ⟨HA, HB⟩
  ihave HA := h $$ HA
  icases HA with ⟨HO, HA⟩
  isplitl [HO]; · iexact HO
  iintro HO
  isplitr [HB]; · iapply HA; iexact HO
  iexact HB

/-- What can be lent out of a state can be lent with more beside it on the left. -/
theorem Lent.after {A : sProp 𝕄} {O : CellTallies nD τ sig Unit} (h : Lent c A O) (B : sProp 𝕄) : Lent c iprop(B ∗ A) O := by
  unfold Lent at h ⊢
  iintro ⟨HB, HA⟩
  ihave HA := h $$ HA
  icases HA with ⟨HO, HA⟩
  isplitl [HO]; · iexact HO
  iintro HO
  isplitl [HB]; · iexact HB
  iapply HA; iexact HO

/-- What a device owes can be lent out of itself. -/
theorem Lent.self (O : CellTallies nD τ sig Unit) : Lent (F := F) c (owing c O) O := by
  unfold Lent
  iintro HO
  isplitl [HO]; · iexact HO
  iintro HO; iexact HO

/-- What a device owes can be lent out of its holdings between two points. -/
theorem lent_core (n w r mm f x : ℕ) : Lent c (Core m c n w r mm f x) (owed c n mm) := by
  unfold Core
  iterate 13 refine Lent.after c ?_ _
  exact Lent.self c _

/-- After the last point nothing is owed. -/
theorem done_left : iprop(Done m c ∗ semVal (barC c) 0) ⊢ iprop(owing c 0 ∗ Left m c) := by
  unfold Done Left
  iintro ⟨⟨H1, H2, H3, H4, H5, H6, H7, H8, H9, H10, HO⟩, Hb⟩
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hb

/-- What a device owes can be lent out of its holdings before a point. -/
theorem lent_start (t : ℕ) : Lent c (Start m c t) (owed c (qN c t) (qN c t - 1)) := by
  unfold Start
  split
  · exact (lent_core m c _ _ _ _ _ _).beside c _
  · exact (lent_core m c _ _ _ _ _ _).beside c _

/-- After point `t` the device holds what it needs before the next one, what it owes taken out. -/
theorem after_lent (K : GSem nD τ sig → ℕ) (t : ℕ) (ht : t < 64) :
    iprop(Know m K ∗ After m c t) ⊢ iprop(owing c (owedAt c (t + 1)) ∗ Hold m c (t + 1)) := by
  unfold After owedAt Hold
  rw [if_neg (Nat.succ_ne_zero t)]
  by_cases h : t = 63
  · rw [if_pos h, if_pos (by omega), if_pos (by omega)]
    iintro ⟨-, H⟩
    iapply (done_left m c); iexact H
  · rw [if_neg h, if_neg (by omega), if_neg (by omega)]
    have hl := (lent_start m c (t + 1)).beside c (semVal (barC c) 0)
    unfold Lent at hl
    have e : Before m c (t + 1) = iprop(Start m c (t + 1) ∗ semVal (barC c) 0) := by
      unfold Before; rw [if_neg (Nat.succ_ne_zero t)]
    rw [e]
    unfold owedAt
    rw [if_neg (Nat.succ_ne_zero t), if_neg (by omega)]
    iintro ⟨#Hk, H⟩
    ihave H := hl $$ H
    icases H with ⟨HO, H⟩
    isplitl [HO]; · iexact HO
    iexists K
    isplitr; · iexact Hk
    iexact H

/-- The second call's staging buffers, at rest during the first. -/
def rest0 : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What is held between points. -/
def Phi0 (t : ℕ) : sProp 𝕄 :=
  iprop(Hold m c t ∗ rest0 c ∗ ∃ r, prngReg c r)

/-- The first call's windows and what is held between its points. -/
def dat0 : Dat τ (Elt F) Unit ℕ UU ℕ cfg0 c where
  A := fun
    | 0 => m ((c : Thread nD τ).loc main_arg0)
    | 1 => m ((c : Thread nD τ).loc main_arg1)
    | 2 => m ((c : Thread nD τ).loc main_v1_0)
    | ⟨_ + 3, h⟩ => absurd h (Nat.not_lt.2 (Nat.le_add_left _ _))
  after := fun
    | 0 => fun t => xblk m c (t.val % 4)
    | 1 => fun t => wblk m c (t.val / 4)
    | 2 => fun t => k0_pay1 (prod m c (t.val % 4) (t.val / 4))
    | ⟨_ + 3, h⟩ => absurd h (Nat.not_lt.2 (Nat.le_add_left _ _))
  Φ := fun t => Phi0 m c t.val
  q := fun _ => fullShare
  owed := fun t => owedAt c t.val

/-- The block of `x` at a point is the row block. -/
theorem index0_0 (t : Fin grid0.N) : win0_0.index t = ![t.val % 4, 0] :=
  (by decide +kernel : ∀ t : Fin grid0.N, win0_0.index t = ![t.val % 4, 0]) t

/-- The block of the second matrix at a point is the column block. -/
theorem index0_1 (t : Fin grid0.N) : win0_1.index t = ![0, t.val / 4] :=
  (by decide +kernel : ∀ t : Fin grid0.N, win0_1.index t = ![0, t.val / 4]) t

/-- The block of the product at a point. -/
theorem index0_2 (t : Fin grid0.N) : win0_2.index t = ![t.val % 4, t.val / 4] :=
  (by decide +kernel : ∀ t : Fin grid0.N, win0_2.index t = ![t.val % 4, t.val / 4]) t

/-- The first window's block at a point is the row block of `x` the point multiplies. -/
theorem block0_0 (t : Fin grid0.N) : (dat0 m c).blockOf 0 t = xblk m c (t.val % 4) := by
  have h64 := lt64 t
  funext y
  refine (Dat.blockOf_apply (dat0 m c) 0 t y).trans ?_
  dsimp only [dat0]
  unfold xblk
  blk_simp [index0_0 t]
  have i0 : win0_0.index t 0 = t.val % 4 := congrFun (index0_0 t) 0
  have i1 : win0_0.index t 1 = 0 := congrFun (index0_0 t) 1
  have y0 : ((y : S512x4096.Idx) 0).val < 512 := ((y : S512x4096.Idx) 0).isLt
  have y1 : ((y : S512x4096.Idx) 1).val < 4096 := ((y : S512x4096.Idx) 1).isLt
  refine congrArg (m ((c : Thread nD τ).loc main_arg0) : S2048x4096.Idx → Elt F .f32) (idx2_ext ?_ ?_)
  · refine (Pipeline.Window.rect_emb_val win0_0 t y 0).trans ?_
    rw [i0]
    show t.val % 4 * 512 + ((y : S512x4096.Idx) 0).val = (512 * (t.val % 4) + ((y : S512x4096.Idx) 0).val) % 2048
    omega
  · refine (Pipeline.Window.rect_emb_val win0_0 t y 1).trans ?_
    rw [i1]
    show 0 * 4096 + ((y : S512x4096.Idx) 1).val = ((y : S512x4096.Idx) 1).val % 4096
    omega

/-- The second window's block at a point is the column block of `W` the point multiplies. -/
theorem block0_1 (t : Fin grid0.N) : (dat0 m c).blockOf 1 t = wblk m c (t.val / 4) := by
  have h64 := lt64 t
  funext y
  refine (Dat.blockOf_apply (dat0 m c) 1 t y).trans ?_
  dsimp only [dat0]
  unfold wblk
  blk_simp [index0_1 t]
  have i0 : win0_1.index t 0 = 0 := congrFun (index0_1 t) 0
  have i1 : win0_1.index t 1 = t.val / 4 := congrFun (index0_1 t) 1
  have y0 : ((y : S4096x512.Idx) 0).val < 4096 := ((y : S4096x512.Idx) 0).isLt
  have y1 : ((y : S4096x512.Idx) 1).val < 512 := ((y : S4096x512.Idx) 1).isLt
  refine congrArg (m ((c : Thread nD τ).loc main_arg1) : S4096x8192.Idx → Elt F .f32) (idx2_ext ?_ ?_)
  · refine (Pipeline.Window.rect_emb_val win0_1 t y 0).trans ?_
    rw [i0]
    show 0 * 4096 + ((y : S4096x512.Idx) 0).val = ((y : S4096x512.Idx) 0).val % 4096
    omega
  · refine (Pipeline.Window.rect_emb_val win0_1 t y 1).trans ?_
    rw [i1]
    show t.val / 4 * 512 + ((y : S4096x512.Idx) 1).val = (512 * (t.val / 4) + ((y : S4096x512.Idx) 1).val) % 8192
    omega

/-- Before every point the first window's buffer holds that row block. -/
theorem before0_0 (t : Fin grid0.N) (d) : (dat0 m c).before 0 t d = xblk m c (t.val % 4) :=
  ((dat0 m c).before_in_eq_fetched 0 rfl (fun _ => rfl) (fun _ _ _ => rfl)
    (fun t => (show _ = xblk m c (t.val % 4) from by dsimp only [dat0]; rfl).trans (block0_0 m c t).symm) t d).trans (block0_0 m c t)

/-- Before every point the second window's buffer holds that column block. -/
theorem before0_1 (t : Fin grid0.N) (d) : (dat0 m c).before 1 t d = wblk m c (t.val / 4) :=
  ((dat0 m c).before_in_eq_fetched 1 rfl (fun _ => rfl) (fun _ _ _ => rfl)
    (fun t => (show _ = wblk m c (t.val / 4) from by dsimp only [dat0]; rfl).trans (block0_1 m c t).symm) t d).trans (block0_1 m c t)

/-- Once every tile is written, the third window's array is the device's product. -/
theorem arr0_2 : (dat0 m c).arrAt 2 cfg0.N = LOC m c := by
  refine Dat.arrAt_eq_of_covers (dat0 m c) 2 _ (by decide +kernel) fun t hf y => ?_
  dsimp only [dat0]
  blk_simp [index0_2 t]
  have h64 : t.val < 64 := lt64 t
  have i0 : win0_2.index t 0 = t.val % 4 := congrFun (index0_2 t) 0
  have i1 : win0_2.index t 1 = t.val / 4 := congrFun (index0_2 t) 1
  have y0 : ((y : S512x512.Idx) 0).val < 512 := ((y : S512x512.Idx) 0).isLt
  have y1 : ((y : S512x512.Idx) 1).val < 512 := ((y : S512x512.Idx) 1).isLt
  have e0 : (((win0_2.blk t).view.emb y : S2048x8192.Idx) 0).val = t.val % 4 * 512 + ((y : S512x512.Idx) 0).val := by
    refine (Pipeline.Window.rect_emb_val win0_2 t y 0).trans ?_
    rw [i0]; rfl
  have e1 : (((win0_2.blk t).view.emb y : S2048x8192.Idx) 1).val = t.val / 4 * 512 + ((y : S512x512.Idx) 1).val := by
    refine (Pipeline.Window.rect_emb_val win0_2 t y 1).trans ?_
    rw [i1]; rfl
  unfold LOC
  rw [e0, e1]
  have q0 : (t.val % 4 * 512 + ((y : S512x512.Idx) 0).val) / 512 = t.val % 4 := by omega
  have q1 : (t.val / 4 * 512 + ((y : S512x512.Idx) 1).val) / 512 = t.val / 4 := by omega
  rw [q0, q1]
  refine congrArg (k0_pay1 (prod m c (t.val % 4) (t.val / 4))) (idx2_ext ?_ ?_)
  · show ((y : S512x512.Idx) 0).val = (t.val % 4 * 512 + ((y : S512x512.Idx) 0).val) % 512
    omega
  · show ((y : S512x512.Idx) 1).val = (t.val / 4 * 512 + ((y : S512x512.Idx) 1).val) % 512
    omega

/-- The first argument is not written. -/
theorem arr0_0 (n : ℕ) : (dat0 m c).arrAt 0 n = m ((c : Thread nD τ).loc main_arg0) := (dat0 m c).arrAt_in 0 rfl n

/-- The second argument is not written. -/
theorem arr0_1 (n : ℕ) : (dat0 m c).arrAt 1 n = m ((c : Thread nD τ).loc main_arg1) := (dat0 m c).arrAt_in 1 rfl n

/-! ## One point -/

/-- What is owed at a point, read off the call's record. -/
theorem owes_of (t : Fin (cfg0.N + 1)) : (dat0 m c).owesAt () t ⊢ owing c (owedAt c t.val) := by
  unfold Dat.owesAt Pipeline.owesWithin owing
  iintro ⟨%W, -, H⟩
  iexists W
  iexact H

/-- What is owed at a point, put into the call's record. -/
theorem of_owes (t : Fin (cfg0.N + 1)) : owing c (owedAt c t.val) ⊢ (dat0 m c).owesAt () t := by
  unfold Dat.owesAt Pipeline.owesWithin owing
  iintro ⟨%W, H⟩
  iexists W
  isplitr; · ipureintro; exact fun _ _ => Or.inl trivial
  iexact H

/-- The body takes what is held before each point to what is held before the next. -/
theorem body0 : BodyObligation (dat0 m c) (defs₀ (F := F)) 𝒱₀ () Set.univ := fun t => by
  have h64 : t.val < 64 := lt64 t
  rw [bigSep_W0, bigSep_W0]
  show iprop(Phi0 m c t.val ∗ (dat0 m c).owesAt () t.castSucc
      ∗ (∃ d, owns (c : Thread nD τ) (st0_0 t) fullShare ((dat0 m c).before 0 t d))
      ∗ (∃ d, owns (c : Thread nD τ) (st0_1 t) fullShare ((dat0 m c).before 1 t d))
      ∗ (∃ d, owns (c : Thread nD τ) (st0_2 t) fullShare ((dat0 m c).before 2 t d)))
    ⊢ wp frame (wpE (defs₀ (F := F)) 𝒱₀ c none) Set.univ (bodyAt0 t) fun _ =>
      iprop(Phi0 m c (t.val + 1) ∗ (dat0 m c).owesAt () t.succ
        ∗ owns (c : Thread nD τ) (st0_0 t) fullShare ((dat0 m c).after 0 t)
        ∗ owns (c : Thread nD τ) (st0_1 t) fullShare ((dat0 m c).after 1 t)
        ∗ owns (c : Thread nD τ) (st0_2 t) fullShare ((dat0 m c).after 2 t))
  have a0 : (dat0 m c).after 0 t = xblk m c (t.val % 4) := by dsimp only [dat0]
  have a1 : (dat0 m c).after 1 t = wblk m c (t.val / 4) := by dsimp only [dat0]
  have a2 : (dat0 m c).after 2 t = k0_pay1 (prod m c (t.val % 4) (t.val / 4)) := by dsimp only [dat0]
  rw [a0, a1, a2]
  have hin : Hold m c t.val = iprop(∃ K, Know m K ∗ (owing c (owedAt c t.val) -∗ Before m c t.val)) := by unfold Hold; rw [if_neg (by omega)]
  unfold Phi0
  rw [hin]
  iintro ⟨⟨⟨%K, #Hk, Hin⟩, Hr, Hp⟩, HO, ⟨%d0, H0⟩, ⟨%d1, H1⟩, ⟨%d2, H2⟩⟩
  ihave H0 := (Entails.of_eq (by rw [before0_0 m c t d0] :
    owns (c : Thread nD τ) (st0_0 t) fullShare ((dat0 m c).before 0 t d0) = owns (c : Thread nD τ) (st0_0 t) fullShare (xblk m c (t.val % 4)))) $$ H0
  ihave H1 := (Entails.of_eq (by rw [before0_1 m c t d1] :
    owns (c : Thread nD τ) (st0_1 t) fullShare ((dat0 m c).before 1 t d1) = owns (c : Thread nD τ) (st0_1 t) fullShare (wblk m c (t.val / 4)))) $$ H1
  ihave HO := (show (dat0 m c).owesAt () t.castSucc ⊢ owing c (owedAt c t.val) from owes_of m c t.castSucc) $$ HO
  ihave Hin := Hin $$ HO
  iapply (step (body_spec m c K t (st0_0 t) (hstage0_0 ((cfg0.slots t 0).cast nbuf0_0)) (st0_1 t) (hstage0_1 ((cfg0.slots t 1).cast nbuf0_1))
    (st0_2 t) (hstage0_2 ((cfg0.slots t 2).cast nbuf0_2)) (Memref.isWhole_whole _) (Memref.isWhole_whole _) ((dat0 m c).before 2 t d2))) $$ [Hin H0 H1 H2]
  · isplitr; · iexact Hk
    isplitl [Hin]; · iexact Hin
    isplitl [H0]; · iexact H0
    isplitl [H1]; · iexact H1
    iexact H2
  iintro ⟨HA, H0, H1, H2⟩
  ihave HA := (after_lent m c K t.val h64) $$ [HA]
  · isplitr; · iexact Hk
    iexact HA
  icases HA with ⟨HO, Hin⟩
  isplitl [Hin Hr Hp]
  · isplitl [Hin]; · iexact Hin
    isplitl [Hr]; · iexact Hr
    iexact Hp
  isplitl [HO]; · iapply (of_owes m c t.succ); iexact HO
  isplitl [H0]; · iexact H0
  isplitl [H1]; · iexact H1
  iexact H2

end Cert.KernelIdeal.Run
-- ==== Proof.Enter.lean ====
module

public import proofs.«01_k».proof.Proof.Grid
public import Idealize.ShloMosaic.Lib.Rounds.Family

@[expose] public section

/-!
# Entering and leaving the first call

The call's own twenty copy semaphores are at zero when it starts; they are then put
under the protocol.  When it ends they are at zero again.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The copy semaphore numbered `n` on device `c`. -/
abbrev dC (c : Dev nD) (n : ℕ) : GSem nD τ sig := ((c : Thread nD τ), .dma (dsem n))

/-- A family over consecutive numbers, renumbered from `0`. -/
theorem ico_shift (Φ : ℕ → sProp 𝕄) (a n : ℕ) :
    bigSep (Finset.Ico a (a + n)) Φ = bigSep (Finset.Ico 0 n) fun k => Φ (a + k) := by
  have e : Finset.Ico a (a + n) = (Finset.Ico 0 n).map (addLeftEmbedding a) := by
    rw [Finset.map_add_left_Ico]; rfl
  rw [e, bigSep_map]; rfl

/-- A family over a range of numbers is the family over its two parts. -/
theorem ico_cut (Φ : ℕ → sProp 𝕄) (a b d : ℕ) (h : a ≤ b) (h' : b ≤ d) :
    bigSep (Finset.Ico a d) Φ = iprop(bigSep (Finset.Ico a b) Φ ∗ bigSep (Finset.Ico b d) Φ) := by
  rw [← Finset.Ico_union_Ico_eq_Ico h h']
  exact bigSep_union (Finset.Ico_disjoint_Ico_consecutive a b d)

/-- A family over two numbers, spelt out. -/
theorem ico_two (Φ : ℕ → sProp 𝕄) : bigSep (Finset.Ico 0 2) Φ = iprop(Φ 0 ∗ Φ 1) := by
  rw [bigSep_eq_bigSepL_of_eq [0, 1] (by decide) (by decide)]; rfl

/-- The twenty semaphores, by what they are for. -/
theorem twenty (Φ : ℕ → sProp 𝕄) :
    (bigSep Finset.univ fun k : Fin 20 => Φ (6 + k.val))
      = iprop((Φ 6 ∗ Φ 7) ∗ (Φ 8 ∗ Φ 9) ∗ (bigSep (Finset.Ico 0 8) fun k => Φ (10 + k % 8)) ∗ bigSep (Finset.Ico 0 8) fun k => Φ (18 + k % 8)) := by
  have e : (bigSep Finset.univ fun k : Fin 20 => Φ (6 + k.val)) = bigSep (Finset.Ico 0 20) fun k => Φ (6 + k) := by
    rw [show Finset.Ico 0 20 = (Finset.univ : Finset (Fin 20)).map Fin.valEmbedding by decide, bigSep_map]; rfl
  have s (a : ℕ) : (bigSep (Finset.Ico a (a + 8)) Φ) = bigSep (Finset.Ico 0 8) fun k => Φ (a + k % 8) := by
    rw [ico_shift]
    exact bigSep_congr fun k hk => by rw [Nat.mod_eq_of_lt (Finset.mem_Ico.mp hk).2]
  have w (a : ℕ) : (bigSep (Finset.Ico a (a + 2)) Φ) = iprop(Φ a ∗ Φ (a + 1)) := by
    rw [ico_shift, ico_two]; rfl
  rw [e, ← ico_shift, ico_cut Φ 6 8 26 (by decide) (by decide), ico_cut Φ 8 10 26 (by decide) (by decide),
    ico_cut Φ 10 18 26 (by decide) (by decide), ← s 10, ← s 18, w 6, w 8]

/-- The call's own semaphores. -/
def osem0 (k : Fin 20) : SemLoc sig := .dma (dsem (6 + k.val))

/-- The call's own semaphores are its own: none stages a window. -/
theorem osem0_facts : Pipeline.OwnSemFacts spec0 osem0 := by decide +kernel

variable (m : (ℓ : Loc nD τ sig) → Buf (Elt F) ℓ) (c : Dev nD)

/-- What the launch keeps for the first call. -/
def Kept : sProp 𝕄 :=
  iprop((∃ K, cellInvs m K) ∗ (bigSep Finset.univ fun k : Fin 20 => openTok ER (dC c (6 + k.val)))
    ∗ (atPos ER (barC c) 0 ∅ 0 ∗ reached ER (barC (zp c)) 0 ∗ reached ER (barC (xp c)) 0)
    ∗ (dutyTok ER (barC (zp c)) 0 true ∗ dutyTok ER (barC (xp c)) 0 false)
    ∗ (bigSep (Finset.Ico 0 8) fun k => sendTok c k) ∗ (bigSep (Finset.Ico 0 8) fun k => fwdTok c k)
    ∗ cred (tallyAt (barC c) () 2)
    ∗ (bigSep (Finset.Ico 0 8) fun k => cred (tallyAt (zrC c k) () N)) ∗ (bigSep (Finset.Ico 0 8) fun k => cred (tallyAt (xrC c k) () N)))

/-- The same with the semaphores under the protocol. -/
def Opened : sProp 𝕄 :=
  iprop((∃ K, Know m K)
    ∗ ((posAt (dC c 6) 0 ∗ posAt (dC c 7) 0) ∗ (posAt (dC c 8) 0 ∗ posAt (dC c 9) 0)
      ∗ (bigSep (Finset.Ico 0 8) fun k => posAt (zrC c k) 0) ∗ bigSep (Finset.Ico 0 8) fun k => posAt (xrC c k) 0)
    ∗ (atPos ER (barC c) 0 ∅ 0 ∗ reached ER (barC (zp c)) 0 ∗ reached ER (barC (xp c)) 0)
    ∗ (dutyTok ER (barC (zp c)) 0 true ∗ dutyTok ER (barC (xp c)) 0 false)
    ∗ (bigSep (Finset.Ico 0 8) fun k => sendTok c k) ∗ (bigSep (Finset.Ico 0 8) fun k => fwdTok c k)
    ∗ cred (tallyAt (barC c) () 2)
    ∗ (bigSep (Finset.Ico 0 8) fun k => cred (tallyAt (zrC c k) () N)) ∗ (bigSep (Finset.Ico 0 8) fun k => cred (tallyAt (xrC c k) () N)))

/-- All the call's semaphores, found at zero, are put under the protocol. -/
theorem open_all (K : GSem nD τ sig → ℕ) :
    iprop(cellInvs m K ∗ (bigSep Finset.univ fun k : Fin 20 => openTok ER (dC c (6 + k.val))) ∗ Pipeline.ownSems0 osem0 c)
      ⊢ (|={Set.univ}=> bigSep Finset.univ fun k : Fin 20 => posAt (dC c (6 + k.val)) 0 : sProp 𝕄) := by
  refine BIBase.Entails.trans ?_ (cells_open ER (Rd m) Finset.univ (fun k : Fin 20 => dC c (6 + k.val)) (fun k => K (dC c (6 + k.val))) (fun _ _ => Set.mem_univ _))
  unfold Pipeline.ownSems0 osem0
  iintro ⟨#Hi, Ho, Hs⟩
  isplitr [Hs]
  · iapply (bigSep_with_persistent (S := Finset.univ) (R := cellInvs m K)
      (Φ := fun k : Fin 20 => openTok ER (dC c (6 + k.val)))
      (Ψ := fun k : Fin 20 => iprop(cellInv ER (Rd m) (K (dC c (6 + k.val))) (dC c (6 + k.val)) ∗ openTok ER (dC c (6 + k.val)))) (fun k _ => by
        iintro ⟨#Hi, Ho⟩
        isplitr; · iapply (inv_dma m K c (6 + k.val) (by omega) (by omega)); iexact Hi
        iexact Ho))
    isplitr; · iexact Hi
    iexact Ho
  · iexact Hs

/-- What the launch kept, with the semaphores at zero, becomes the same under the protocol. -/
theorem hopen0 : iprop(Kept m c ∗ Pipeline.ownSems0 osem0 c ∗ levAts L lv) ⊢ (|={Set.univ}=> Opened m c : sProp 𝕄) := by
  unfold Kept Opened Know
  iintro ⟨⟨⟨%K, #Hi⟩, Ho, Hrest⟩, Hs, #Hl⟩
  imod (open_all m c K) $$ [Ho Hs] with Hp
  · isplitr; · iexact Hi
    isplitl [Ho]; · iexact Ho
    iexact Hs
  imodintro
  isplitr
  · iexists K
    isplitr; · iexact Hi
    iexact Hl
  isplitl [Hp]
  · ihave Hp := (Entails.of_eq (twenty fun n => posAt (F := F) (dC c n) 0)) $$ Hp
    iexact Hp
  iexact Hrest

/-- What is read of a row of positions: that each round is reached. -/
theorem row_reached (g : ℕ → GSem nD τ sig) :
    (bigSep (Finset.Ico 0 8) fun k => posAt (F := F) (g k) 0) ⊢ iprop((bigSep (Finset.Ico 0 8) fun k => atPos ER (g k) 0 ∅ 0) ∗ bigSep (Finset.Ico 0 8) fun k => reached ER (g k) 0) := by
  unfold posAt
  exact Entails.of_eq (bigSep_sep' _ _ _)

/-- The device's own blocks, as its neighbour along `z` is to get them. -/
theorem pay_z : iprop((bigSep (Finset.Ico 0 8) fun k => blkAny c (2 * k + xOf c)) ∗ bigSep (Finset.Ico 0 8) fun k => reached ER (zrC c k) 0)
    ⊢ (barPay (zp c) true : sProp 𝕄) := by
  unfold barPay
  rw [zp_zp, xOf_zp]
  exact Entails.of_eq (bigSep_sep' _ _ _).symm

/-- The device's other blocks, as its neighbour along `x` is to get them. -/
theorem pay_x : iprop((bigSep (Finset.Ico 0 8) fun k => blkAny c (2 * k + xOf (xp c))) ∗ bigSep (Finset.Ico 0 8) fun k => reached ER (xrC c k) 0)
    ⊢ (barPay (xp c) false : sProp 𝕄) := by
  unfold barPay
  rw [xp_xp]
  exact Entails.of_eq (bigSep_sep' _ _ _).symm

/-- A row of cells still to be waited on. -/
theorem row_todo (g : ℕ → GSem nD τ sig) :
    iprop((bigSep (Finset.Ico 0 8) fun k => atPos ER (g k) 0 ∅ 0) ∗ bigSep (Finset.Ico 0 8) fun k => cred (tallyAt (g k) () N))
      ⊢ ((bigSep (Finset.Ico 0 8) fun k => todo (g k)) : sProp 𝕄) := by
  unfold todo
  exact Entails.of_eq (bigSep_sep' _ _ _).symm

/-- A device has what it needs before the first point. -/
theorem hin0 (f : Buf (Elt F) (recvLoc c)) :
    iprop((∃ f, sendLoc c ↦{fullShare} f) ∗ rest0 c ∗ (∃ r, prngReg c r) ∗ (recvLoc c ↦{fullShare} f) ∗ Opened m c) ⊢ Phi0 m c 0 := by
  have hi : Hold m c 0 = iprop(∃ K, Know m K ∗ (owing c (O₀ c) -∗ Pre c)) := by
    unfold Hold Before owedAt; rw [if_neg (by decide), if_pos rfl, if_pos rfl]
  unfold Phi0 Opened
  rw [hi]
  iintro ⟨Hs, Hr, Hp, Hb, ⟨%K, #Hk⟩, ⟨⟨⟨Hz0, Hz1⟩, ⟨Hf0, Hf1⟩, Hzr, Hxr⟩, ⟨Hbar, #Rz, #Rx⟩, ⟨Tz, Tx⟩, Ts, Tf, Hc, Cz, Cx⟩⟩
  ihave Hs := (send_split c) $$ Hs
  icases Hs with ⟨S0, S1⟩
  ihave Hb := (recv_split c f) $$ Hb
  icases Hb with ⟨Bz, Bx⟩
  ihave Hzr := (row_reached (zrC c)) $$ Hzr
  icases Hzr with ⟨Az, Qz⟩
  ihave Hxr := (row_reached (xrC c)) $$ Hxr
  icases Hxr with ⟨Ax, Qx⟩
  isplitr [Hr Hp]
  · iexists K
    isplitr; · iexact Hk
    iintro HO
    unfold Pre
    isplitl [Tz]; · iexact Tz
    isplitr; · iexact Rz
    isplitl [Bz Qz]
    · iapply (pay_z c); isplitl [Bz]; · iexact Bz
      iexact Qz
    isplitl [Tx]; · iexact Tx
    isplitr; · iexact Rx
    isplitl [Bx Qx]
    · iapply (pay_x c); isplitl [Bx]; · iexact Bx
      iexact Qx
    isplitl [Hc]; · iexact Hc
    isplitl [Hbar]; · iexact Hbar
    isplitl [HO]; · iexact HO
    isplitl [Ts]; · iexact Ts
    isplitl [Tf]; · iexact Tf
    isplitl [Az Cz]
    · iapply (row_todo (zrC c)); isplitl [Az]; · iexact Az
      iexact Cz
    isplitl [Ax Cx]
    · iapply (row_todo (xrC c)); isplitl [Ax]; · iexact Ax
      iexact Cx
    isplitl [Hz0 Hz1]
    · unfold Pos; isplitl [Hz0]; · iexact Hz0
      iexact Hz1
    isplitl [Hf0 Hf1]
    · unfold Pos; isplitl [Hf0]; · iexact Hf0
      iexact Hf1
    isplitl [S0]; · iexact S0
    iexact S1
  isplitl [Hr]; · iexact Hr
  iexact Hp

/-- The twenty semaphores, back at zero. -/
theorem sems_back :
    iprop(semVal (zsC c 0) 0 ∗ semVal (zsC c 1) 0 ∗ semVal (fsC c 0) 0 ∗ semVal (fsC c 1) 0
      ∗ (bigSep (Finset.Ico 0 8) fun k => semVal (zrC c k) 0) ∗ (bigSep (Finset.Ico 0 8) fun k => semVal (xrC c k) 0))
      ⊢ (Pipeline.ownSems0 osem0 c : sProp 𝕄) := by
  have e := twenty fun n => (semVal (dC c n) 0 : sProp 𝕄)
  unfold Pipeline.ownSems0 osem0
  refine BIBase.Entails.trans ?_ (Entails.of_eq e.symm)
  iintro ⟨H1, H2, H3, H4, H5, H6⟩
  isplitl [H1 H2]
  · isplitl [H1]; · iexact H1
    iexact H2
  isplitl [H3 H4]
  · isplitl [H3]; · iexact H3
    iexact H4
  isplitl [H5]; · iexact H5
  iexact H6

/-- After the last point a device has its buffers back, the received half filled and every semaphore at zero. -/
theorem hout0 : Phi0 m c 64 ⊢ iprop(((∃ f, sendLoc c ↦{fullShare} f) ∗ rest0 c) ∗ (∃ r, prngReg c r) ∗ (recvLoc c ↦{fullShare} (RECV m c))
    ∗ Pipeline.ownSems0 osem0 c ∗ semVal (barC c) 0) := by
  have hi : Hold m c 64 = Left m c := by unfold Hold; rw [if_pos rfl]
  unfold Phi0
  rw [hi]
  unfold Left
  iintro ⟨⟨H1, H2, H3, H4, H5, H6, H7, H8, H9, H10, Hb⟩, Hr, Hp⟩
  isplitl [H3 H4 Hr]
  · isplitl [H3 H4]
    · iapply (send_join c); isplitl [H3]; · iexact H3
      iexact H4
    iexact Hr
  isplitl [Hp]; · iexact Hp
  isplitl [H1 H2]
  · iapply (recv_join m c); isplitl [H1]; · iexact H1
    iexact H2
  isplitl [H5 H6 H7 H8 H9 H10]
  · iapply (sems_back c)
    isplitl [H5]; · iexact H5
    isplitl [H6]; · iexact H6
    isplitl [H7]; · iexact H7
    isplitl [H8]; · iexact H8
    isplitl [H9]; · iexact H9
    iexact H10
  iexact Hb

end Cert.KernelIdeal.Run
-- ==== Proof.Softmax.lean ====
module

public import proofs.«01_k».proof.Proof.Enter

@[expose] public section

/-!
# The second call

Each of the 16 points reads 128 rows of both halves of the product and writes 128 rows
of the result.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (c : Dev nD)

/-! ## Contents -/

/-- 128 rows of the result, from the same rows of the device's own half and of its neighbour's. -/
def smTile (v w : S128x8192.Idx → Elt F .bf16) : S128x16384.Idx → Elt F .f32 :=
  fun y => if (y 1).val / 8192 = c.val % 2 then k1_pay7 v w (at2 (by decide) (by decide) (y 0).val (y 1).val)
    else k1_pay8 v w (at2 (by decide) (by decide) (y 0).val (y 1).val)

/-- Rows `128 i` to `128 i + 127` of a half. -/
def rows (X : S2048x8192.Idx → Elt F .bf16) (i : ℕ) : S128x8192.Idx → Elt F .bf16 :=
  fun y => X (at2 (by decide) (by decide) (128 * i + (y 0).val) (y 1).val)

/-- What the second call leaves in the result. -/
def OUT : S2048x16384.Idx → Elt F .f32 :=
  fun z => smTile c (rows (LOC m c) ((z 0).val / 128)) (rows (RECV m c) ((z 0).val / 128))
    (at2 (by decide) (by decide) (z 0).val (z 1).val)

/-! ## The body -/

/-- The own half goes first on the devices with `z = 0`. -/
theorem k1_cond1_iff : k1_cond1 c = 1#1 ↔ c.val % 2 = 0 :=
  (by decide +kernel : ∀ c : Dev nD, k1_cond1 c = 1#1 ↔ c.val % 2 = 0) c

/-- The own half goes second on the devices with `z = 1`. -/
theorem k1_cond2_iff : k1_cond2 c = 1#1 ↔ c.val % 2 = 1 :=
  (by decide +kernel : ∀ c : Dev nD, k1_cond2 c = 1#1 ↔ c.val % 2 = 1) c

/-- A load out of a matrix whose value is not used. -/
theorem load_any {a b : ℕ} {cs : CoreSpace} {e : EltTy} (M : Memref sig .tc cs ⟨2, ![a, b]⟩ e)
    (X : (⟨2, ![a, b]⟩ : Shape).Idx → Elt F e) (r : Rect ⟨2, ![a, b]⟩) {hl} :
    (owns (c : Thread nD τ) M fullShare X : sProp 𝕄)
      ⊢ wp frame (wpE (defs₀ (F := F)) 𝒱₀ c none) Set.univ (Prog.lift (.load M r.toLoadRect hl)) fun _ =>
        owns (c : Thread nD τ) M fullShare X := by
  unfold owns
  iintro ⟨%f, %hf, H⟩
  iapply (wp_load_rect 𝒱₀ (c : Thread nD τ) none Set.univ (m := M) (r := r) (q := fullShare) (f := f)
    (S := M.view.set) (View.set_slice_subset _ _)) $$ H
  iintro H
  rw [wp_ret]
  imodintro
  iexists f
  isplitr
  · ipureintro; exact hf
  · iexact H

/-- A store over a part of a matrix: what was stored there, and what was held elsewhere. -/
theorem store_part {a b : ℕ} {cs : CoreSpace} {e : EltTy} (M : Memref sig .tc cs ⟨2, ![a, b]⟩ e)
    (X Y : (⟨2, ![a, b]⟩ : Shape).Idx → Elt F e) (r : Rect ⟨2, ![a, b]⟩) (w : r.shape.Idx → Elt F e) {hx hm}
    (hin : ∀ x, Y (r.emb x) = w x) (hout : ∀ y, y ∉ r.set → Y y = X y) :
    (owns (c : Thread nD τ) M fullShare X : sProp 𝕄)
      ⊢ wp frame (wpE (defs₀ (F := F)) 𝒱₀ c none) Set.univ (Prog.lift (.store M r w Finset.univ hx hm)) fun _ =>
        owns (c : Thread nD τ) M fullShare Y := by
  unfold owns
  iintro ⟨%f, %hf, H⟩
  iapply (wp_store 𝒱₀ (c : Thread nD τ) none Set.univ (m := M) (r := r) (w := w) (Mk := Finset.univ)
    (f := f) (S := M.view.set) (View.set_slice_subset _ _)) $$ H
  iintro H
  rw [wp_ret]
  imodintro
  iexists _
  isplitr
  rotate_left
  · iexact H
  · ipureintro
    funext y
    by_cases hy : y ∈ r.set
    · obtain ⟨x, rfl⟩ := r.exists_idx_of_mem hy
      exact (View.read_slice_write_emb (v := M.view) r f w (Finset.mem_univ x)).trans (hin x).symm
    · exact (View.read_slice_write_of_not_mem (v := M.view) r f w Finset.univ (by rw [Rect.map_emb_univ]; exact hy)).trans
        ((congrFun hf y).trans (hout y hy).symm)

/-- Where an element of a half lies in the 128 rows. -/
theorem half_emb (o : ℕ) (h) (x : S128x8192.Idx) :
    (((Rect.unit (s := S128x16384) ![0, o] S128x8192.size h).emb x) 0).val = (x 0).val
      ∧ (((Rect.unit (s := S128x16384) ![0, o] S128x8192.size h).emb x) 1).val = o + (x 1).val := by
  constructor
  · refine (ValueKit.rect_emb_unit_val (s := S128x16384) ![0, o] S128x8192.size h x 0).trans ?_
    show 0 + (x 0).val = _; omega
  · exact (ValueKit.rect_emb_unit_val (s := S128x16384) ![0, o] S128x8192.size h x 1)

/-- Which elements of the 128 rows lie in a half. -/
theorem half_mem (o : ℕ) (h) (y : S128x16384.Idx) :
    y ∈ (Rect.unit (s := S128x16384) ![0, o] S128x8192.size h).set ↔ o ≤ (y 1).val ∧ (y 1).val < o + 8192 := by
  rw [Rect.mem_set_unit]
  have y0 : (y 0).val < 128 := (y 0).isLt
  constructor
  · intro H
    exact H 1
  · rintro ⟨h1, h2⟩ a
    match a with
    | ⟨0, _⟩ => exact ⟨Nat.zero_le _, by show (y 0).val < 0 + 128; omega⟩
    | ⟨1, _⟩ => exact ⟨h1, h2⟩

/-- Storing both halves of a tile: nothing is left of what was there. -/
theorem store_halves (M : Memref sig .tc .vmem S128x16384 .f32) (Z T : S128x16384.Idx → Elt F .f32) (p q : S128x8192.Idx → Elt F .f32)
    (hT : ∀ y, T y = if (y 1).val < 8192 then p (at2 (by decide) (by decide) (y 0).val (y 1).val)
      else q (at2 (by decide) (by decide) (y 0).val (y 1).val)) {i1 l1 s1 m1 i2 l2 s2 m2}
    (k : Prog (TpuEff nD τ sig (Elt F) Λ₀ .tc) PUnit) (Φ : PUnit → sProp 𝕄) :
    (owns (c : Thread nD τ) M fullShare Z : sProp 𝕄)
      ⊢ iprop((owns (c : Thread nD τ) M fullShare T -∗ wp frame (wpE (defs₀ (F := F)) 𝒱₀ (c : Thread nD τ) none) Set.univ k Φ)
        -∗ wp frame (wpE (defs₀ (F := F)) 𝒱₀ (c : Thread nD τ) none) Set.univ
        (do let _v : Vec F S128x8192 .f32 ← Prog.lift (.load M (Rect.unit (s := S128x16384) ![0, 0] S128x8192.size i1).toLoadRect l1)
            Prog.lift (.store M (Rect.unit (s := S128x16384) ![0, 0] S128x8192.size i1) p Finset.univ s1 m1)
            let _w : Vec F S128x8192 .f32 ← Prog.lift (.load M (Rect.unit (s := S128x16384) ![0, 8192] S128x8192.size i2).toLoadRect l2)
            Prog.lift (.store M (Rect.unit (s := S128x16384) ![0, 8192] S128x8192.size i2) q Finset.univ s2 m2)
            k : Prog (TpuEff nD τ sig (Elt F) Λ₀ .tc) PUnit) Φ) := by
  have t1 : ∀ x : S128x8192.Idx, (x 0).val < 128 ∧ (x 1).val < 8192 := fun x => ⟨(x 0).isLt, (x 1).isLt⟩
  simp only [wp_bind]
  iintro H Hk
  iapply (stepV (load_any c M Z _)) $$ H
  iintro %_ H
  iapply (step (store_part c M Z (fun y => if (y 1).val < 8192 then T y else Z y) _ p
    (fun x => by
      obtain ⟨e0, e1⟩ := half_emb 0 i1 x
      have ht := t1 x
      rw [if_pos (by rw [e1]; omega), hT, if_pos (by rw [e1]; omega), e0, e1]
      refine congrArg p (idx2_ext ?_ ?_)
      · show (x 0).val % 128 = _; omega
      · show (0 + (x 1).val) % 8192 = _; omega)
    (fun y hy => by
      rw [half_mem] at hy
      exact if_neg (by omega)))) $$ H
  iintro H
  iapply (stepV (load_any c M _ _)) $$ H
  iintro %_ H
  iapply (step (store_part c M _ T _ q
    (fun x => by
      obtain ⟨e0, e1⟩ := half_emb 8192 i2 x
      have ht := t1 x
      rw [hT, if_neg (by rw [e1]; omega), e0, e1]
      refine congrArg q (idx2_ext ?_ ?_)
      · show (x 0).val % 128 = _; omega
      · show (8192 + (x 1).val) % 8192 = _; omega)
    (fun y hy => by
      rw [half_mem] at hy
      have y1 : (y 1).val < 16384 := (y 1).isLt
      exact (if_pos (by omega)).symm))) $$ H
  iintro H
  iapply Hk
  iexact H

/-- The second call's body at a point. -/
theorem softmax_spec (i : grid1.Coords) (A1 : Memref sig .tc .vmem S128x8192 .bf16) (h1 : A1.IsWhole)
    (A2 : Memref sig .tc .vmem S128x8192 .bf16) (h2 : A2.IsWhole) (A3 : Memref sig .tc .vmem S128x16384 .f32) (h3 : A3.IsWhole)
    (v w : S128x8192.Idx → Elt F .bf16) (Z : S128x16384.Idx → Elt F .f32) :
    (iprop(owns (c : Thread nD τ) A1 fullShare v ∗ owns (c : Thread nD τ) A2 fullShare w ∗ owns (c : Thread nD τ) A3 fullShare Z) : sProp 𝕄)
      ⊢ wp frame (wpE (defs₀ (F := F)) 𝒱₀ (c : Thread nD τ) none) Set.univ
          (cc1__softmax_body (F := F) i A1 h1 A2 h2 A3 h3 : Prog (TpuEff nD τ sig (Elt F) Λ₀ .tc) PUnit) fun _ =>
        iprop(owns (c : Thread nD τ) A1 fullShare v ∗ owns (c : Thread nD τ) A2 fullShare w
          ∗ owns (c : Thread nD τ) A3 fullShare (smTile c v w)) := by
  have hz := c.isLt
  rw [cc1__softmax_body_eq_skeleton]
  unfold cc1__softmax_body_skel
  rw [wp_bind]
  refine BI.Entails.trans ?_ (devId c _)
  show _ ⊢ wp _ _ _ _ _
  by_cases hc : c.val % 2 = 0
  · have c1 := (k1_cond1_iff c).mpr hc
    have c2 : ¬ k1_cond2 c = 1#1 := by rw [k1_cond2_iff]; omega
    have hs := store_halves (F := F) c A3 Z (smTile c v w) (k1_pay7 v w) (k1_pay8 v w) (fun y => by
      have y1 : (y 1).val < 16384 := (y 1).isLt
      unfold smTile
      by_cases hy : (y 1).val < 8192
      · rw [if_pos hy, if_pos (by omega)]
      · rw [if_neg hy, if_neg (by omega)])
      (i1 := inb_S128x16384_S128x8192_0_0) (l1 := View.loadsAt_vmem h_S128x8192)
      (s1 := View.stores_vmem_bits_univ h_S128x8192 rfl) (m1 := .inl rfl)
      (i2 := inb_S128x16384_S128x8192_0_8192) (l2 := View.loadsAt_vmem h_S128x8192)
      (s2 := View.stores_vmem_bits_univ h_S128x8192 rfl) (m2 := .inl rfl) (pure ⟨⟩)
      (fun _ => iprop(owns (c : Thread nD τ) A1 fullShare v ∗ owns (c : Thread nD τ) A2 fullShare w
        ∗ owns (c : Thread nD τ) A3 fullShare (smTile c v w)))
    rw [wp_bind]
    iintro ⟨H1, H2, H3⟩
    iapply (stepV (load_owns (c := c) A1 fullShare v rfl)) $$ H1
    iintro %v' ⟨%ev, H1⟩
    rw [ev]
    rw [wp_bind]
    iapply (stepV (load_owns (c := c) A2 fullShare w rfl)) $$ H2
    iintro %w' ⟨%ew, H2⟩
    rw [ew]
    rw [dif_pos c1, dif_neg c2]
    iapply hs $$ H3
    iintro H3
    rw [wp_pure]
    imodintro
    isplitl [H1]; · iexact H1
    isplitl [H2]; · iexact H2
    iexact H3
  · have c1 : ¬ k1_cond1 c = 1#1 := by rw [k1_cond1_iff]; omega
    have c2 := (k1_cond2_iff c).mpr (by omega)
    have hs := store_halves (F := F) c A3 Z (smTile c v w) (k1_pay8 v w) (k1_pay7 v w) (fun y => by
      have y1 : (y 1).val < 16384 := (y 1).isLt
      unfold smTile
      by_cases hy : (y 1).val < 8192
      · rw [if_pos hy, if_neg (by omega)]
      · rw [if_neg hy, if_pos (by omega)])
      (i1 := inb_S128x16384_S128x8192_0_0) (l1 := View.loadsAt_vmem h_S128x8192)
      (s1 := View.stores_vmem_bits_univ h_S128x8192 rfl) (m1 := .inl rfl)
      (i2 := inb_S128x16384_S128x8192_0_8192) (l2 := View.loadsAt_vmem h_S128x8192)
      (s2 := View.stores_vmem_bits_univ h_S128x8192 rfl) (m2 := .inl rfl) (pure ⟨⟩)
      (fun _ => iprop(owns (c : Thread nD τ) A1 fullShare v ∗ owns (c : Thread nD τ) A2 fullShare w
        ∗ owns (c : Thread nD τ) A3 fullShare (smTile c v w)))
    rw [wp_bind]
    iintro ⟨H1, H2, H3⟩
    iapply (stepV (load_owns (c := c) A1 fullShare v rfl)) $$ H1
    iintro %v' ⟨%ev, H1⟩
    rw [ev]
    rw [wp_bind]
    iapply (stepV (load_owns (c := c) A2 fullShare w rfl)) $$ H2
    iintro %w' ⟨%ew, H2⟩
    rw [ew]
    rw [dif_neg c1, dif_pos c2]
    iapply hs $$ H3
    iintro H3
    rw [wp_pure]
    imodintro
    isplitl [H1]; · iexact H1
    isplitl [H2]; · iexact H2
    iexact H3

/-! ## Over the grid -/

/-- The second call's windows. -/
def dat1 : Dat τ (Elt F) Unit ℕ UU ℕ cfg1 c where
  A := fun
    | 0 => LOC m c
    | 1 => RECV m c
    | 2 => m ((c : Thread nD τ).loc main_v2)
    | ⟨_ + 3, h⟩ => absurd h (Nat.not_lt.2 (Nat.le_add_left _ _))
  after := fun
    | 0 => fun t => rows (LOC m c) t.val
    | 1 => fun t => rows (RECV m c) t.val
    | 2 => fun t => smTile c (rows (LOC m c) t.val) (rows (RECV m c) t.val)
    | ⟨_ + 3, h⟩ => absurd h (Nat.not_lt.2 (Nat.le_add_left _ _))
  Φ := fun _ => Pipeline.scopedRest cfg1.spec c
  q := fun _ => fullShare
  owed := fun _ => 0

/-- There are 16 points. -/
theorem lt16 (t : Fin grid1.N) : t.val < 16 := t.isLt

/-- The rows of the own half at a point. -/
theorem index1_0 (t : Fin grid1.N) : win1_0.index t = ![t.val, 0] :=
  (by decide +kernel : ∀ t : Fin grid1.N, win1_0.index t = ![t.val, 0]) t

/-- The rows of the received half at a point. -/
theorem index1_1 (t : Fin grid1.N) : win1_1.index t = ![t.val, 0] :=
  (by decide +kernel : ∀ t : Fin grid1.N, win1_1.index t = ![t.val, 0]) t

/-- The rows of the result at a point. -/
theorem index1_2 (t : Fin grid1.N) : win1_2.index t = ![t.val, 0] :=
  (by decide +kernel : ∀ t : Fin grid1.N, win1_2.index t = ![t.val, 0]) t

/-- The rows of the own half that a point reads. -/
theorem block1_0 (t : Fin grid1.N) : (dat1 m c).blockOf 0 t = rows (LOC m c) t.val := by
  have h16 := lt16 t
  funext y
  refine (Dat.blockOf_apply (dat1 m c) 0 t y).trans ?_
  dsimp only [dat1]
  unfold rows
  blk_simp [index1_0 t]
  have i0 : win1_0.index t 0 = t.val := congrFun (index1_0 t) 0
  have i1 : win1_0.index t 1 = 0 := congrFun (index1_0 t) 1
  have y0 : ((y : S128x8192.Idx) 0).val < 128 := ((y : S128x8192.Idx) 0).isLt
  have y1 : ((y : S128x8192.Idx) 1).val < 8192 := ((y : S128x8192.Idx) 1).isLt
  refine congrArg (LOC m c) (idx2_ext ?_ ?_)
  · refine (Pipeline.Window.rect_emb_val win1_0 t y 0).trans ?_
    rw [i0]
    show t.val * 128 + ((y : S128x8192.Idx) 0).val = (128 * t.val + ((y : S128x8192.Idx) 0).val) % 2048
    omega
  · refine (Pipeline.Window.rect_emb_val win1_0 t y 1).trans ?_
    rw [i1]
    show 0 * 8192 + ((y : S128x8192.Idx) 1).val = ((y : S128x8192.Idx) 1).val % 8192
    omega

/-- The rows of the received half that a point reads. -/
theorem block1_1 (t : Fin grid1.N) : (dat1 m c).blockOf 1 t = rows (RECV m c) t.val := by
  have h16 := lt16 t
  funext y
  refine (Dat.blockOf_apply (dat1 m c) 1 t y).trans ?_
  dsimp only [dat1]
  unfold rows
  blk_simp [index1_1 t]
  have i0 : win1_1.index t 0 = t.val := congrFun (index1_1 t) 0
  have i1 : win1_1.index t 1 = 0 := congrFun (index1_1 t) 1
  have y0 : ((y : S128x8192.Idx) 0).val < 128 := ((y : S128x8192.Idx) 0).isLt
  have y1 : ((y : S128x8192.Idx) 1).val < 8192 := ((y : S128x8192.Idx) 1).isLt
  refine congrArg (RECV m c) (idx2_ext ?_ ?_)
  · refine (Pipeline.Window.rect_emb_val win1_1 t y 0).trans ?_
    rw [i0]
    show t.val * 128 + ((y : S128x8192.Idx) 0).val = (128 * t.val + ((y : S128x8192.Idx) 0).val) % 2048
    omega
  · refine (Pipeline.Window.rect_emb_val win1_1 t y 1).trans ?_
    rw [i1]
    show 0 * 8192 + ((y : S128x8192.Idx) 1).val = ((y : S128x8192.Idx) 1).val % 8192
    omega

/-- What the first window holds at a point. -/
theorem before1_0 (t : Fin grid1.N) (d) : (dat1 m c).before 0 t d = rows (LOC m c) t.val :=
  ((dat1 m c).before_in_eq_fetched 0 rfl (fun _ => rfl) (fun _ _ _ => rfl)
    (fun t => (show _ = rows (LOC m c) t.val from by dsimp only [dat1]; rfl).trans (block1_0 m c t).symm) t d).trans (block1_0 m c t)

/-- What the second window holds at a point. -/
theorem before1_1 (t : Fin grid1.N) (d) : (dat1 m c).before 1 t d = rows (RECV m c) t.val :=
  ((dat1 m c).before_in_eq_fetched 1 rfl (fun _ => rfl) (fun _ _ _ => rfl)
    (fun t => (show _ = rows (RECV m c) t.val from by dsimp only [dat1]; rfl).trans (block1_1 m c t).symm) t d).trans (block1_1 m c t)

/-- The result once every row block is written. -/
theorem arr1_2 : (dat1 m c).arrAt 2 cfg1.N = OUT m c := by
  refine Dat.arrAt_eq_of_covers (dat1 m c) 2 _ (by decide +kernel) fun t hf y => ?_
  dsimp only [dat1]
  blk_simp [index1_2 t]
  have h16 : t.val < 16 := lt16 t
  have i0 : win1_2.index t 0 = t.val := congrFun (index1_2 t) 0
  have i1 : win1_2.index t 1 = 0 := congrFun (index1_2 t) 1
  have y0 : ((y : S128x16384.Idx) 0).val < 128 := ((y : S128x16384.Idx) 0).isLt
  have y1 : ((y : S128x16384.Idx) 1).val < 16384 := ((y : S128x16384.Idx) 1).isLt
  have e0 : (((win1_2.blk t).view.emb y : S2048x16384.Idx) 0).val = t.val * 128 + ((y : S128x16384.Idx) 0).val := by
    refine (Pipeline.Window.rect_emb_val win1_2 t y 0).trans ?_
    rw [i0]; rfl
  have e1 : (((win1_2.blk t).view.emb y : S2048x16384.Idx) 1).val = 0 * 16384 + ((y : S128x16384.Idx) 1).val := by
    refine (Pipeline.Window.rect_emb_val win1_2 t y 1).trans ?_
    rw [i1]; rfl
  unfold OUT
  rw [e0, e1]
  have q0 : (t.val * 128 + ((y : S128x16384.Idx) 0).val) / 128 = t.val := by omega
  rw [q0]
  refine congrArg (smTile c (rows (LOC m c) t.val) (rows (RECV m c) t.val)) (idx2_ext ?_ ?_)
  · show ((y : S128x16384.Idx) 0).val = (t.val * 128 + ((y : S128x16384.Idx) 0).val) % 128
    omega
  · show ((y : S128x16384.Idx) 1).val = (0 * 16384 + ((y : S128x16384.Idx) 1).val) % 16384
    omega

/-- The own half is not written. -/
theorem arr1_0 (n : ℕ) : (dat1 m c).arrAt 0 n = LOC m c := (dat1 m c).arrAt_in 0 rfl n

/-- The received half is not written. -/
theorem arr1_1 (n : ℕ) : (dat1 m c).arrAt 1 n = RECV m c := (dat1 m c).arrAt_in 1 rfl n

/-- The body writes its rows of the result. -/
theorem body1 : BodyObligation (dat1 m c) (defs₀ (F := F)) 𝒱₀ () Set.univ := fun t => by
  rw [bigSep_W1, bigSep_W1]
  show iprop(Pipeline.scopedRest cfg1.spec c ∗ (dat1 m c).owesAt () t.castSucc
      ∗ (∃ d, owns (c : Thread nD τ) (st1_0 t) fullShare ((dat1 m c).before 0 t d))
      ∗ (∃ d, owns (c : Thread nD τ) (st1_1 t) fullShare ((dat1 m c).before 1 t d))
      ∗ (∃ d, owns (c : Thread nD τ) (st1_2 t) fullShare ((dat1 m c).before 2 t d)))
    ⊢ wp frame (wpE (defs₀ (F := F)) 𝒱₀ c none) Set.univ (bodyAt1 t) fun _ =>
      iprop(Pipeline.scopedRest cfg1.spec c ∗ (dat1 m c).owesAt () t.succ
        ∗ owns (c : Thread nD τ) (st1_0 t) fullShare ((dat1 m c).after 0 t)
        ∗ owns (c : Thread nD τ) (st1_1 t) fullShare ((dat1 m c).after 1 t)
        ∗ owns (c : Thread nD τ) (st1_2 t) fullShare ((dat1 m c).after 2 t))
  have a0 : (dat1 m c).after 0 t = rows (LOC m c) t.val := by dsimp only [dat1]
  have a1 : (dat1 m c).after 1 t = rows (RECV m c) t.val := by dsimp only [dat1]
  have a2 : (dat1 m c).after 2 t = smTile c (rows (LOC m c) t.val) (rows (RECV m c) t.val) := by dsimp only [dat1]
  rw [a0, a1, a2]
  iintro ⟨Hr, HO, ⟨%d0, H0⟩, ⟨%d1, H1⟩, ⟨%d2, H2⟩⟩
  ihave H0 := (Entails.of_eq (by rw [before1_0 m c t d0] :
    owns (c : Thread nD τ) (st1_0 t) fullShare ((dat1 m c).before 0 t d0) = owns (c : Thread nD τ) (st1_0 t) fullShare (rows (LOC m c) t.val))) $$ H0
  ihave H1 := (Entails.of_eq (by rw [before1_1 m c t d1] :
    owns (c : Thread nD τ) (st1_1 t) fullShare ((dat1 m c).before 1 t d1) = owns (c : Thread nD τ) (st1_1 t) fullShare (rows (RECV m c) t.val))) $$ H1
  ihave HO := (show (dat1 m c).owesAt () t.castSucc ⊢ (dat1 m c).owesAt () t.succ from .rfl) $$ HO
  iapply (step (softmax_spec c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (rows (LOC m c) t.val) (rows (RECV m c) t.val) ((dat1 m c).before 2 t d2))) $$ [H0 H1 H2]
  · isplitl [H0]; · iexact H0
    isplitl [H1]; · iexact H1
    iexact H2
  iintro ⟨H0, H1, H2⟩
  isplitl [Hr]; · iexact Hr
  isplitl [HO]; · iexact HO
  isplitl [H0]; · iexact H0
  isplitl [H1]; · iexact H1
  iexact H2

end Cert.KernelIdeal.Run
-- ==== Proof.Segs.lean ====
module

public import proofs.«01_k».proof.Proof.Softmax
public import Idealize.ShloMosaic.Lib.Pipeline.RegionArraysS

@[expose] public section

/-!
# The two calls as segments of the program

What the buffers hold before, between and after the calls.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-- The two calls' windows. -/
def pdats : (p : Fin 2) → (c : Dev nD) → Dat τ (Elt F) Unit ℕ UU ℕ (Pipeline.pin (pcfgs (F := F)) adm p) c
  | 0 => dat0 m
  | 1 => dat1 m

/-! ## Contents -/

/-- Between the calls. -/
def Vmid (c : Dev nD) : Valuation τ sig (Elt F) :=
  Function.update (Function.update (V0 m c) main_v1_0 (LOC m c)) main_v1_1 (RECV m c)

/-- After both calls. -/
def Vend (c : Dev nD) : Valuation τ sig (Elt F) := Pipeline.afterRegion (dat1 m c) (Vmid m c)

/-- The first call changes only its two results. -/
theorem Vmid_of (c : Dev nD) (r : Ref sig .tc) (h0 : r ≠ main_v1_0) (h1 : r ≠ main_v1_1) : Vmid m c r = V0 m c r := by
  unfold Vmid
  rw [Function.update_of_ne (StableHlo.devRef_ne_of_ne h1), Function.update_of_ne (StableHlo.devRef_ne_of_ne h0)]

/-- After the first call its first result holds the device's own half. -/
theorem Vmid_loc (c : Dev nD) : Vmid m c main_v1_0 = LOC m c := by
  unfold Vmid
  rw [Function.update_of_ne (StableHlo.devRef_ne_of_ne (by decide)), Function.update_self]

/-- After the first call its second result holds the received half. -/
theorem Vmid_recv (c : Dev nD) : Vmid m c main_v1_1 = RECV m c := by
  unfold Vmid
  rw [Function.update_self]

/-- The second call reads what the first has left. -/
theorem A_mid (c : Dev nD) (w : Fin 3) : (dat1 m c).A w = Vmid m c (Proc.devRef .tc (Pipeline.arrRef spec1 w)) := by
  fin_cases w
  · exact (Vmid_loc m c).symm
  · exact (Vmid_recv m c).symm
  · exact (Vmid_of m c main_v2 (by decide) (by decide)).symm

/-- After the second call the result holds the softmax. -/
theorem Vend_out (c : Dev nD) : Vend m c main_v2 = OUT m c :=
  (Pipeline.afterRegion_arr (dat1 m c) (Vmid m c) winFacts1.arr_inj 2).trans (arr1_2 m c)

/-- The first argument is as it was. -/
theorem Vend_arg0 (c : Dev nD) : Vend m c main_arg0 = m ((c : Thread nD τ).loc main_arg0) :=
  (Pipeline.afterRegion_keeps (dat1 m c) (Vmid m c) winFacts1.arr_inj (A_mid m c) main_arg0 (by decide)).trans
    (Vmid_of m c main_arg0 (by decide) (by decide))

/-- The second argument is as it was. -/
theorem Vend_arg1 (c : Dev nD) : Vend m c main_arg1 = m ((c : Thread nD τ).loc main_arg1) :=
  (Pipeline.afterRegion_keeps (dat1 m c) (Vmid m c) winFacts1.arr_inj (A_mid m c) main_arg1 (by decide)).trans
    (Vmid_of m c main_arg1 (by decide) (by decide))

/-- The first call holds its arrays whole. -/
theorem share0 (c : Dev nD) (w : Fin 3) : (dat0 m c).share w = fullShare := by
  unfold Dat.share; split <;> rfl

/-- The second call holds its arrays whole. -/
theorem share1 (c : Dev nD) (w : Fin 3) : (dat1 m c).share w = fullShare := by
  unfold Dat.share; split <;> rfl

/-! ## The first call -/

/-- The buffer the first call addresses itself. -/
abbrev own0 : Finset (DevRef τ sig) := {Proc.devRef .tc main_v1_1}

/-- The buffers that are none of the first call's windows. -/
abbrev other0 : Finset (DevRef τ sig) := Pipeline.ucRefs τ sig \ Pipeline.arrRefs spec0

/-- The receive array is one of the arrays the first call does not stage. -/
theorem own0_sub : own0 ⊆ other0 := by decide

/-- The first call's arrays belong to the whole program. -/
theorem arr0_sub : Pipeline.arrRefs spec0 ⊆ Pipeline.ucRefs τ sig := by decide

/-- The second call's arrays belong to the whole program. -/
theorem arr1_sub : Pipeline.arrRefs spec1 ⊆ Pipeline.ucRefs τ sig := by decide

/-- Holding the first call's own array is holding the receive array. -/
theorem held_own0 (c : Dev nD) (V : Valuation τ sig (Elt F)) :
    (StableHlo.held (c.tc : Thread nD τ) own0 V : sProp 𝕄) = iprop(recvLoc c ↦{fullShare} (V main_v1_1)) := by
  unfold StableHlo.held
  exact bigSep_singleton

/-- The first call leaves the other arrays alone. -/
theorem rest_mid (c : Dev nD) : ∀ b ∈ other0 \ own0, Vmid m c b = V0 m c b := by
  have h : other0 \ own0 ⊆ {Proc.devRef .tc main_v2} := by decide
  intro b hb
  obtain rfl := Finset.mem_singleton.mp (h hb)
  exact Vmid_of m c main_v2 (by decide) (by decide)

/-- The first call's windows are laid out as a launch needs. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The second call's windows are laid out as a launch needs. -/
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- Everything owed is on a semaphore above level 0. -/
theorem owedAt_pos (c : Dev nD) (t : ℕ) (g : GSem nD τ sig) (i : Unit) (h : 0 < owedAt c t g i) : i ∈ L g ∧ 0 < lv g i := by
  have aux (n f : ℕ) (h : 0 < owed c n f g i) : i ∈ L g ∧ 0 < lv g i := by
    rcases owed_pos c n f g i h with ⟨k, _, hk, rfl⟩ | ⟨k, _, hk, rfl⟩
    · exact ⟨by rw [L_tc]; exact Finset.mem_singleton_self _, by rw [lv_zr _ k hk]; omega⟩
    · exact ⟨by rw [L_tc]; exact Finset.mem_singleton_self _, by rw [lv_xr]; omega⟩
  have auxb (d : Dev nD) (h : 0 < (tallyAt (barC d) () 1 : CellTallies nD τ sig Unit) g i) : i ∈ L g ∧ 0 < lv g i := by
    rw [tallyAt_apply] at h
    split at h
    · next hg => rw [hg.1]; exact ⟨by rw [L_tc]; exact Finset.mem_singleton_self _, Nat.one_pos⟩
    · exact absurd h (Nat.lt_irrefl 0)
  unfold owedAt at h
  split at h
  · unfold O₀ at h
    rw [Pi.add_apply, Finsupp.add_apply, Pi.add_apply, Finsupp.add_apply] at h
    rcases Nat.add_pos_iff_pos_or_pos.mp h with h | h
    · rcases Nat.add_pos_iff_pos_or_pos.mp h with h | h
      · exact aux _ _ h
      · exact auxb _ h
    · exact auxb _ h
  · split at h
    · exact absurd h (Nat.lt_irrefl 0)
    · exact aux _ _ h

/-- The first call's staging semaphores are at level 0. -/
theorem stage_lv0 (c : Dev nD) (w : Fin 3) (s : Fin (spec0 w).nbuf) : lv ((c : Thread nD τ), .dma ((spec0 w).sem s)) () ≤ 0 :=
  (by decide +kernel : ∀ (w : Fin 3) (s : Fin (spec0 w).nbuf), lv (((0 : Dev nD) : Thread nD τ), .dma ((spec0 w).sem s)) () ≤ 0) w s

/-- The second call's staging semaphores are at level 0. -/
theorem stage_lv1 (c : Dev nD) (w : Fin 3) (s : Fin (spec1 w).nbuf) : lv ((c : Thread nD τ), .dma ((spec1 w).sem s)) () ≤ 0 :=
  (by decide +kernel : ∀ (w : Fin 3) (s : Fin (spec1 w).nbuf), lv (((0 : Dev nD) : Thread nD τ), .dma ((spec1 w).sem s)) () ≤ 0) w s

/-- From what the launch gives the first call, the state before its first point. -/
theorem enter0 (c : Dev nD) : iprop(Pipeline.scopedRest spec0 c ∗ (∃ r, prngReg c r) ∗ StableHlo.held (c.tc : Thread nD τ) own0 (V0 m c) ∗ Opened m c)
    ⊢ Phi0 m c 0 := by
  rw [scopedRest0_eq, held_own0]
  iintro ⟨⟨Hs, Hr⟩, Hp, Hb, HO⟩
  iapply (hin0 m c (V0 m c main_v1_1))
  isplitl [Hs]; · iexact Hs
  isplitl [Hr]; · unfold rest0; iexact Hr
  isplitl [Hp]; · iexact Hp
  isplitl [Hb]; · iexact Hb
  iexact HO

/-- From the state after the first call's last point, what it gives back. -/
theorem leave0 (c : Dev nD) : Phi0 m c 64
    ⊢ iprop(Pipeline.scopedRest spec0 c ∗ (∃ r, prngReg c r) ∗ StableHlo.held (c.tc : Thread nD τ) own0 (Vmid m c)
      ∗ Pipeline.ownSems0 osem0 c ∗ semVal (barC c) 0) := by
  refine BIBase.Entails.trans (hout0 m c) ?_
  rw [scopedRest0_eq, held_own0, Vmid_recv]
  iintro ⟨⟨Hs, Hr⟩, Hp, Hb, HO⟩
  isplitl [Hs Hr]
  · isplitl [Hs]; · iexact Hs
    unfold rest0; iexact Hr
  isplitl [Hp]; · iexact Hp
  isplitl [Hb]; · iexact Hb
  iexact HO

local notation "ℝ𝕊" => Pipeline.RegionSeg (pcfgs (F := F)) adm (pdats m) () defs₀ 𝒱₀ L lv

set_option backward.isDefEq.respectTransparency.types false in
/-- The first call. -/
def reg0 : ℝ𝕊 0 :=
  Pipeline.RegionSeg.ofTalk (pcfgs (F := F)) adm (pdats m) () defs₀ 𝒱₀ L lv 0 osem0 osem0_facts
    own0 other0 own0_sub kit0 rfl (fun c => (body0 m c).loose)
    (fun _ => 0) O₀ (fun c => (show owedAt c 0 = 0 + O₀ c by unfold owedAt; rw [if_pos rfl, zero_add]))
    (fun c => (show owedAt c 64 = 0 by unfold owedAt; rw [if_neg (by decide), if_pos rfl])) (fun _ => rfl) (share0 m)
    (V0 m) (Vmid m) (rest_mid m)
    (Kept m) (fun c => semVal (barC c) 0) (Opened m) (fun c => semVal (barC c) 0) (hopen0 m) (enter0 m) (leave0 m)
    (fun c => by iintro H; imodintro; iexact H)
    (fun _ => 0)
    ⟨fun c _ _ => by rw [L_tc]; exact Finset.mem_singleton_self _, fun c w s => stage_lv0 c w s, fun c t g i h => owedAt_pos c t.val g i h⟩
    (fun _ => iprop(emp))
    (fun c w => by fin_cases w <;> rfl)
    (fun c w => by
      fin_cases w
      · exact (arr0_0 m c _).trans (Vmid_of m c main_arg0 (by decide) (by decide)).symm
      · exact (arr0_1 m c _).trans (Vmid_of m c main_arg1 (by decide) (by decide)).symm
      · exact (arr0_2 m c).trans (Vmid_loc m c).symm)

/-- What a device holds between the calls and after them, its buffers apart. -/
def Rest (c : Dev nD) : sProp 𝕄 := iprop(semVal (barC c) 0 ∗ ∃ r, prngReg c r)

set_option backward.isDefEq.respectTransparency.types false in
/-- The second call. -/
def reg1 : ℝ𝕊 1 :=
  Pipeline.RegionSeg.ofHeldIn (pcfgs (F := F)) adm (pdats m) () defs₀ 𝒱₀ L lv 1 (fun _ => 0) (Pipeline.ucRefs τ sig)
    (fun _ => iprop(emp)) (fun _ => iprop(emp)) kit1 rfl (fun c => (body1 m c).loose)
    (fun _ _ => rfl) (fun _ => rfl) (share1 m)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H
      isplitl [H]; · iexact H
      iempintro)
    (fun _ => 0)
    ⟨fun c _ _ => by rw [L_tc]; exact Finset.mem_singleton_self _, fun c w s => stage_lv1 c w s, fun c g i h => absurd h (Nat.lt_irrefl 0)⟩
    Rest (Vmid m) (A_mid m)

/-! ## From one to the next -/

/-- Before the first call. -/
def T₀ (c : Dev nD) : sProp 𝕄 :=
  iprop(StableHlo.held (c.tc : Thread nD τ) (Pipeline.ucRefs τ sig) (V0 m c) ∗ (∃ r, prngReg c r) ∗ Kept m c ∗ ∃ Wd, owes (c : Thread nD τ) (O₀ c) Wd)

/-- After the second call. -/
def Tₙ (c : Dev nD) : sProp 𝕄 :=
  iprop(StableHlo.held (c.tc : Thread nD τ) (Pipeline.ucRefs τ sig) (Vend m c) ∗ semVal (barC c) 0)

/-- What a device holds at the start is what the first call asks for. -/
theorem first (c : Dev nD) : T₀ m c ⊢ (reg0 m).pre c := by
  show _ ⊢ iprop(StableHlo.held (c.tc : Thread nD τ) (Pipeline.arrRefs spec0) (V0 m c) ∗ (∃ r, prngReg c r)
    ∗ (StableHlo.held (c.tc : Thread nD τ) other0 (V0 m c) ∗ emp) ∗ Kept m c ∗ ∃ Wd, owes (c : Thread nD τ) (0 + O₀ c) Wd)
  unfold T₀
  rw [zero_add, StableHlo.held_sub_split (c.tc : Thread nD τ) arr0_sub (V0 m c)]
  iintro ⟨⟨Ha, Hu⟩, Hp, Hk, HO⟩
  isplitl [Ha]; · iexact Ha
  isplitl [Hp]; · iexact Hp
  isplitl [Hu]
  · isplitl [Hu]; · iexact Hu
    iempintro
  isplitl [Hk]; · iexact Hk
  iexact HO

/-- What the first call leaves is what the second asks for. -/
theorem second (c : Dev nD) : (reg0 m).post c ⊢ (reg1 m).pre c := by
  have hp : iprop(StableHlo.held (c.tc : Thread nD τ) (Pipeline.arrRefs spec1) (Vmid m c) ∗ emp
      ∗ (StableHlo.held (c.tc : Thread nD τ) (Pipeline.ucRefs τ sig \ Pipeline.arrRefs spec1) (Vmid m c) ∗ Rest c)
      ∗ ∃ Wd, owes (c : Thread nD τ) (0 : CellTallies nD τ sig Unit) Wd) ⊢ (reg1 m).pre c := .rfl
  refine BIBase.Entails.trans ?_ hp
  show iprop(StableHlo.held (c.tc : Thread nD τ) (Pipeline.arrRefs spec0) (Vmid m c) ∗ (∃ r, prngReg c r)
    ∗ (StableHlo.held (c.tc : Thread nD τ) other0 (Vmid m c) ∗ emp) ∗ semVal (barC c) 0 ∗ ∃ Wd, owes (c : Thread nD τ) (0 : CellTallies nD τ sig Unit) Wd) ⊢ _
  unfold Rest
  iintro ⟨Ha, Hp, ⟨Hu, -⟩, Hb, HO⟩
  ihave Hh := (Entails.of_eq (StableHlo.held_sub_split (c.tc : Thread nD τ) arr0_sub (Vmid m c)).symm) $$ [Ha Hu]
  · isplitl [Ha]; · iexact Ha
    iexact Hu
  ihave Hh := (Entails.of_eq (StableHlo.held_sub_split (c.tc : Thread nD τ) arr1_sub (Vmid m c))) $$ Hh
  icases Hh with ⟨Ha, Hu⟩
  isplitl [Ha]; · iexact Ha
  isplitr; · iempintro
  isplitr [HO]
  · isplitl [Hu]; · iexact Hu
    isplitl [Hb]; · iexact Hb
    iexact Hp
  iexact HO

/-- What the second call leaves is what the end needs, and nothing is owed. -/
theorem last (c : Dev nD) : (reg1 m).post c ⊢ iprop(Tₙ m c ∗ ∃ W, owes (c : Thread nD τ) (0 : CellTallies nD τ sig Unit) W) := by
  refine BIBase.Entails.trans (Pipeline.RegionSeg.ofHeldIn_post (p := 1) (D := fun _ => 0) arr1_sub c) ?_
  show iprop(StableHlo.held (c.tc : Thread nD τ) (Pipeline.ucRefs τ sig) (Vend m c)
    ∗ ((∃ Wd, owes (c : Thread nD τ) (0 : CellTallies nD τ sig Unit) Wd) ∗ emp ∗ Rest c)) ⊢ _
  unfold Rest Tₙ
  iintro ⟨Hh, HO, -, Hb, -⟩
  isplitr [HO]
  · isplitl [Hh]; · iexact Hh
    iexact Hb
  iexact HO

end Cert.KernelIdeal.Run
-- ==== Proof.Launch.lean ====
module

public import proofs.«01_k».proof.Proof.Segs

@[expose] public section

/-!
# The launch

Every semaphore of the first call is put under the protocol, the duties' tokens are handed to the
devices that pay them, and the launch credit to the devices that wait.
-/

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-! ## The cells and the tokens -/

/-- Each device's barrier. -/
def barEmb : Dev nD ↪ GSem nD τ sig :=
  ⟨fun c => barC c, fun c d h => congrArg (fun g : GSem nD τ sig => g.1.1) h⟩

/-- The call's own semaphores are distinct. -/
theorem osem0_inj : Function.Injective osem0 := by decide +kernel

/-- Each device's twenty copy semaphores. -/
def scEmb : Dev nD × Fin 20 ↪ GSem nD τ sig :=
  ⟨fun p => ((p.1 : Thread nD τ), osem0 p.2), fun p q h =>
    Prod.ext (congrArg (fun g : GSem nD τ sig => g.1.1) h) (osem0_inj (congrArg (fun g : GSem nD τ sig => g.2) h))⟩

/-- Every device's barrier. -/
def barCells : Finset (GSem nD τ sig) := Finset.univ.map barEmb

/-- Every device's twenty copy semaphores. -/
def scCells : Finset (GSem nD τ sig) := Finset.univ.map scEmb

/-- No barrier is a copy semaphore. -/
theorem disjoint_cells : Disjoint barCells scCells := by
  rw [Finset.disjoint_left]
  intro g h1 h2
  obtain ⟨c, -, rfl⟩ := Finset.mem_map.mp h1
  obtain ⟨p, -, h⟩ := Finset.mem_map.mp h2
  have h' : osem0 p.2 = .reg (sig.barrier 0 rfl) := congrArg (fun g : GSem nD τ sig => g.2) h
  revert h'
  exact (by decide +kernel : ∀ k : Fin 20, osem0 k = .reg (sig.barrier 0 rfl) → False) p.2

/-- A device's barrier is one of them. -/
theorem bar_mem (c : Dev nD) : barC c ∈ barCells := Finset.mem_map_of_mem barEmb (Finset.mem_univ c)

/-- Each of a device's 21 semaphores is one of them. -/
theorem cell_mem (p : Dev nD × Fin 21) : cellIx p ∈ barCells ∪ scCells := by
  obtain ⟨c, ⟨n, hn⟩⟩ := p
  by_cases h : n = 0
  · subst h
    rw [cellIx_bar]
    exact Finset.mem_union_left _ (bar_mem c)
  · rw [cellIx_dma c n h hn]
    refine Finset.mem_union_right _ (Finset.mem_map.mpr ⟨(c, ⟨n - 1, by omega⟩), Finset.mem_univ _, ?_⟩)
    show (((c : Thread nD τ), SemLoc.dma (dsem (6 + (n - 1)))) : GSem nD τ sig) = _
    rw [show 6 + (n - 1) = 5 + n by omega]

/-- A device's tokens: of its sends, of its forwards, of the blocks it receives, of the forwards it receives, of its barrier. -/
def tokS (p : Fin 5 × Fin 8) : SemLoc sig × ℕ × Bool :=
  match p.1 with
  | 0 => (.dma (dsem (6 + p.2.val % 2)), p.2.val / 2, true)
  | 1 => (.dma (dsem (8 + p.2.val % 2)), p.2.val / 2, true)
  | 2 => (.dma (dsem (10 + p.2.val % 8)), 0, true)
  | 3 => (.dma (dsem (18 + p.2.val % 8)), 0, true)
  | 4 => (.reg (sig.barrier 0 rfl), p.2.val / 2, decide (p.2.val % 2 = 1))

/-- The duties on one device's semaphores are distinct. -/
theorem tokS_inj : Function.Injective tokS := by decide +kernel

/-- The duties on all devices' semaphores, numbered. -/
def tokEmb : Dev nD × (Fin 5 × Fin 8) ↪ GSem nD τ sig × ℕ × Bool :=
  ⟨fun q => (((q.1 : Thread nD τ), (tokS q.2).1), (tokS q.2).2.1, (tokS q.2).2.2), fun p q h =>
    Prod.ext (congrArg (fun g : GSem nD τ sig × ℕ × Bool => g.1.1.1) h)
      (tokS_inj (Prod.ext (congrArg (fun g : GSem nD τ sig × ℕ × Bool => g.1.2) h)
        (congrArg (fun g : GSem nD τ sig × ℕ × Bool => g.2) h)))⟩

/-- All the duties. -/
def toks : Finset (GSem nD τ sig × ℕ × Bool) := Finset.univ.map tokEmb

/-- The protocol's ghost state as the launch finds it. -/
def u₀ : UU :=
  (initOf (Pipeline.cells (Pipeline.pin (pcfgs (F := F)) adm) cellOf_inj) (Pipeline.launchToks (Pipeline.pin (pcfgs (F := F)) adm) cellOf_inj),
    launchOf barCells scCells toks)

/-- `X` on device `c₀`, nothing on the others. -/
def onDev (c₀ : Dev nD) (X : sProp 𝕄) (c : Dev nD) : sProp 𝕄 := if c = c₀ then X else iprop(emp)

/-- Something held for one device only, over all devices. -/
theorem bigSep_onDev (c₀ : Dev nD) (X : sProp 𝕄) : bigSep Finset.univ (onDev c₀ X) = X := by
  have h : bigSep (Finset.univ.erase c₀) (onDev c₀ X) = (BI.emp : sProp 𝕄) :=
    (bigSep_congr fun c hc => if_neg (Finset.ne_of_mem_erase hc)).trans (bigSep_emp_const _)
  rw [bigSep_univ_at _ c₀, h]
  unfold onDev
  rw [if_pos rfl]
  exact equiv_iff.mp sep_emp

/-- The protocol's fresh state, held for device 0. -/
def G : Dev nD → sProp 𝕄 := onDev 0 (BI.own (ER (launchOf barCells scCells toks)))

/-! ## What every device learns -/

/-- The cells' invariants, and that every barrier stands at its first round. -/
def records (κ : GSem nD τ sig → ℕ) : sProp 𝕄 :=
  iprop(cellInvs m κ ∗ bigSep barCells fun g => reached ER g 0)

/-- The records stay true. -/
instance records_persistent (κ : GSem nD τ sig → ℕ) : BI.Persistent (records m κ) := by
  unfold records; infer_instance

/-- The semaphores' invariants, from those of the two kinds. -/
theorem invs_of (κ : GSem nD τ sig → ℕ) :
    (bigSep (barCells ∪ scCells) fun g => (cellInv ER (Rd m) (κ g) g : sProp 𝕄)) ⊢ cellInvs m κ := by
  have h := bigSep_with_persistent (S := (Finset.univ : Finset (Dev nD × Fin 21)))
    (R := bigSep (barCells ∪ scCells) fun g => (cellInv ER (Rd m) (κ g) g : sProp 𝕄)) (Φ := fun _ => (BI.emp : sProp 𝕄))
    (Ψ := fun p => cellInv ER (Rd m) (κ (cellIx p)) (cellIx p)) fun p _ => by
      have hp : (bigSep (barCells ∪ scCells) fun g => (cellInv ER (Rd m) (κ g) g : sProp 𝕄)) ⊢ cellInv ER (Rd m) (κ (cellIx p)) (cellIx p) :=
        bigSep_elim (cell_mem p) (Φ := fun g => (cellInv ER (Rd m) (κ g) g : sProp 𝕄))
      iintro ⟨H, -⟩
      iapply hp
      iexact H
  rw [bigSep_emp_const] at h
  unfold cellInvs
  iintro H
  iapply h
  isplitl [H]; · iexact H
  iempintro

/-- A device's barrier has reached its first round. -/
theorem reached_bar (c : Dev nD) : (bigSep barCells fun g => (reached ER g 0 : sProp 𝕄)) ⊢ reached ER (barC c) 0 :=
  bigSep_elim (bar_mem c) (Φ := fun g => (reached ER g 0 : sProp 𝕄))

/-! ## What each device gets for itself -/

/-- A device's own tokens, before they are handed round. -/
def dealt (c : Dev nD) : sProp 𝕄 :=
  iprop((bigSep (Finset.Ico 0 8) fun k => dutyTok ER (zsC c k) (k / 2) true)
    ∗ (bigSep (Finset.Ico 0 8) fun k => dutyTok ER (fsC c k) (k / 2) true)
    ∗ (bigSep (Finset.Ico 0 8) fun k => dutyTok ER (zrC c k) 0 true)
    ∗ (bigSep (Finset.Ico 0 8) fun k => dutyTok ER (xrC c k) 0 true)
    ∗ dutyTok ER (barC c) 0 true ∗ dutyTok ER (barC c) 0 false)

/-- The tokens of what a device pays. -/
def paid (c : Dev nD) : sProp 𝕄 :=
  iprop((dutyTok ER (barC (zp c)) 0 true ∗ dutyTok ER (barC (xp c)) 0 false)
    ∗ (bigSep (Finset.Ico 0 8) fun k => sendTok c k) ∗ (bigSep (Finset.Ico 0 8) fun k => fwdTok c k))

/-- A family over the numbers below eight, by its indices. -/
theorem ico_fin (Φ : ℕ → sProp 𝕄) : bigSep (Finset.Ico 0 8) Φ = bigSep Finset.univ fun k : Fin 8 => Φ k.val := by
  rw [show Finset.Ico 0 8 = (Finset.univ : Finset (Fin 8)).map Fin.valEmbedding by decide, bigSep_map]; rfl

/-- A family over five indices, spelt out. -/
theorem fin5 (Φ : Fin 5 → sProp 𝕄) : bigSep Finset.univ Φ = iprop(Φ 0 ∗ Φ 1 ∗ Φ 2 ∗ Φ 3 ∗ Φ 4) := by
  rw [bigSep_eq_bigSepL_of_eq [0, 1, 2, 3, 4] (by decide) (by decide)]; rfl

/-- The duties on one device's semaphores, by semaphore. -/
theorem tok_dealt (c : Dev nD) :
    (bigSep Finset.univ fun p : Fin 5 × Fin 8 => (dutyTok ER ((c : Thread nD τ), (tokS p).1) (tokS p).2.1 (tokS p).2.2 : sProp 𝕄)) ⊢ dealt c := by
  have hb : (bigSep Finset.univ fun k : Fin 8 => (dutyTok ER (barC c) (k.val / 2) (decide (k.val % 2 = 1)) : sProp 𝕄))
      ⊢ iprop(dutyTok ER (barC c) 0 true ∗ dutyTok ER (barC c) 0 false) := by
    refine BIBase.Entails.trans (bigSep_subset (show ({1, 0} : Finset (Fin 8)) ⊆ Finset.univ from Finset.subset_univ _)) ?_
    rw [bigSep_insert (by decide), bigSep_singleton]
    exact .rfl
  rw [bigSep_univ_prod, fin5]
  unfold dealt
  rw [ico_fin, ico_fin, ico_fin, ico_fin]
  iintro ⟨H0, H1, H2, H3, H4⟩
  isplitl [H0]; · iexact H0
  isplitl [H1]; · iexact H1
  isplitl [H2]; · iexact H2
  isplitl [H3]; · iexact H3
  iapply hb
  iexact H4

/-- All the duties, by device and semaphore. -/
theorem toks_dealt : (bigSep toks fun x => (dutyTok ER x.1 x.2.1 x.2.2 : sProp 𝕄)) ⊢ bigSep Finset.univ fun c : Dev nD => dealt c := by
  unfold toks
  rw [bigSep_map, bigSep_univ_prod]
  exact bigSep_mono fun c _ => tok_dealt c

/-- Each token handed to the neighbour that pays with it. -/
theorem dealt_paid : (bigSep Finset.univ fun c : Dev nD => (dealt c : sProp 𝕄)) ⊢ bigSep Finset.univ fun c : Dev nD => paid c := by
  have e (c : Dev nD) : (paid c : sProp 𝕄) = iprop((dutyTok ER (barC (zp c)) 0 true ∗ dutyTok ER (barC (xp c)) 0 false)
      ∗ ((bigSep (Finset.Ico 0 8) fun k => dutyTok ER (zsC c k) (k / 2) true) ∗ (bigSep (Finset.Ico 0 8) fun k => dutyTok ER (zrC (zp c) k) 0 true))
      ∗ ((bigSep (Finset.Ico 0 8) fun k => dutyTok ER (fsC c k) (k / 2) true) ∗ (bigSep (Finset.Ico 0 8) fun k => dutyTok ER (xrC (xp c) k) 0 true))) := by
    unfold paid sendTok fwdTok
    rw [bigSep_sep', bigSep_sep']
  rw [bigSep_congr fun c _ => e c]
  unfold dealt
  simp only [bigSep_sep']
  rw [bigSep_univ_equiv zEquiv (fun c : Dev nD => (dutyTok ER (barC c) 0 true : sProp 𝕄)),
    bigSep_univ_equiv xEquiv (fun c : Dev nD => (dutyTok ER (barC c) 0 false : sProp 𝕄)),
    bigSep_univ_equiv zEquiv (fun c : Dev nD => bigSep (Finset.Ico 0 8) fun k => (dutyTok ER (zrC c k) 0 true : sProp 𝕄)),
    bigSep_univ_equiv xEquiv (fun c : Dev nD => bigSep (Finset.Ico 0 8) fun k => (dutyTok ER (xrC c k) 0 true : sProp 𝕄))]
  iintro ⟨H0, H1, H2, H3, H4, H5⟩
  isplitl [H4 H5]
  · isplitl [H4]; · iexact H4
    iexact H5
  isplitl [H0 H2]
  · isplitl [H0]; · iexact H0
    iexact H2
  isplitl [H1]; · iexact H1
  iexact H3

/-! ## The launch credit -/

/-- What a device may wait for: two units at the barrier and one copy at each receiving semaphore. -/
theorem creds (c : Dev nD) : (Pipeline.launchCred O₀ c : sProp 𝕄)
    ⊢ iprop(cred (tallyAt (barC c) () 2)
      ∗ (bigSep (Finset.Ico 0 8) fun k => cred (tallyAt (zrC c k) () N)) ∗ (bigSep (Finset.Ico 0 8) fun k => cred (tallyAt (xrC c k) () N))) := by
  have eO : (O₀ : Dev nD → CellTallies nD τ sig Unit) = fun d =>
      (((∑ k ∈ Finset.Ico 0 8, tallyAt (zrC (zp d) k) () N) + ∑ k ∈ Finset.Ico 0 8, tallyAt (xrC (xp d) k) () N)
        + tallyAt (barC (xp d)) () 1) + tallyAt (barC (zp d)) () 1 := rfl
  have hz (k : ℕ) : (Pipeline.launchCred (fun d => tallyAt (zrC (zp d) k) () N) c : sProp 𝕄) ⊢ cred (tallyAt (zrC c k) () N) :=
    Pipeline.launchCred_tallyAt _ zp zp zp_zp zp_zp () N c
  have hx (k : ℕ) : (Pipeline.launchCred (fun d => tallyAt (xrC (xp d) k) () N) c : sProp 𝕄) ⊢ cred (tallyAt (xrC c k) () N) :=
    Pipeline.launchCred_tallyAt _ xp xp xp_xp xp_xp () N c
  have hbz : (Pipeline.launchCred (fun d => tallyAt (barC (zp d)) () 1) c : sProp 𝕄) ⊢ cred (tallyAt (barC c) () 1) :=
    Pipeline.launchCred_tallyAt _ zp zp zp_zp zp_zp () 1 c
  have hbx : (Pipeline.launchCred (fun d => tallyAt (barC (xp d)) () 1) c : sProp 𝕄) ⊢ cred (tallyAt (barC c) () 1) :=
    Pipeline.launchCred_tallyAt _ xp xp xp_xp xp_xp () 1 c
  have h2 : iprop(cred (tallyAt (barC c) () 1) ∗ cred (tallyAt (barC c) () 1)) ⊢ (cred (tallyAt (barC c) () 2) : sProp 𝕄) := by
    rw [← tallyAt_add (barC c) () 1 1]
    exact (cred_add _ _).2
  have hzs : (Pipeline.launchCred (fun d => ∑ k ∈ Finset.Ico 0 8, tallyAt (zrC (zp d) k) () N) c : sProp 𝕄)
      ⊢ bigSep (Finset.Ico 0 8) fun k => cred (tallyAt (zrC c k) () N) :=
    (Entails.of_eq (Pipeline.launchCred_sum (Finset.Ico 0 8) (fun k d => tallyAt (zrC (zp d) k) () N) c)).trans (bigSep_mono fun k _ => hz k)
  have hxs : (Pipeline.launchCred (fun d => ∑ k ∈ Finset.Ico 0 8, tallyAt (xrC (xp d) k) () N) c : sProp 𝕄)
      ⊢ bigSep (Finset.Ico 0 8) fun k => cred (tallyAt (xrC c k) () N) :=
    (Entails.of_eq (Pipeline.launchCred_sum (Finset.Ico 0 8) (fun k d => tallyAt (xrC (xp d) k) () N) c)).trans (bigSep_mono fun k _ => hx k)
  rw [eO, Pipeline.launchCred_add, Pipeline.launchCred_add, Pipeline.launchCred_add]
  iintro ⟨⟨⟨Hz, Hx⟩, Hbx⟩, Hbz⟩
  isplitl [Hbx Hbz]
  · iapply h2
    isplitl [Hbx]
    · iapply hbx; iexact Hbx
    · iapply hbz; iexact Hbz
  isplitl [Hz]
  · iapply hzs; iexact Hz
  · iapply hxs; iexact Hx

/-! ## Before the first call -/

/-- What stays with device `c` alone of the protocol's ghost state. -/
def linear (c : Dev nD) : sProp 𝕄 :=
  iprop(atPos ER (barC c) 0 ∅ 0 ∗ (bigSep Finset.univ fun k : Fin 20 => openTok ER (dC c (6 + k.val))) ∗ paid c)

/-- What of a device's launch holdings is not the protocol's ghost state. -/
def bundle (c : Dev nD) : sProp 𝕄 :=
  iprop(StableHlo.held (c.tc : Thread nD τ) (Pipeline.ucRefs τ sig) (V0 m c)
    ∗ (cred (tallyAt (barC c) () 2)
      ∗ (bigSep (Finset.Ico 0 8) fun k => cred (tallyAt (zrC c k) () N)) ∗ (bigSep (Finset.Ico 0 8) fun k => cred (tallyAt (xrC c k) () N)))
    ∗ owes (c : Thread nD τ) (O₀ c) ∅ ∗ ∃ r, prngReg c r)

/-- The records, a device's own part of the protocol's state and the rest make up what it holds before the first call. -/
theorem T₀_intro (κ : GSem nD τ sig → ℕ) (c : Dev nD) : iprop(records m κ ∗ (linear c ∗ bundle m c)) ⊢ T₀ m c := by
  unfold records linear paid bundle T₀ Kept
  iintro ⟨⟨#HI, #HR⟩, ⟨Hat, Ho, Ht, Hs, Hf⟩, Hh, ⟨H1, H2, H3⟩, HO, Hp⟩
  isplitl [Hh]; · iexact Hh
  isplitl [Hp]; · iexact Hp
  isplitr [HO]
  · isplitr
    · iexists κ; iexact HI
    isplitl [Ho]; · iexact Ho
    isplitl [Hat]
    · isplitl [Hat]; · iexact Hat
      isplitr
      · iapply (reached_bar (F := F) (zp c)); iexact HR
      · iapply (reached_bar (F := F) (xp c)); iexact HR
    isplitl [Ht]; · iexact Ht
    isplitl [Hs]; · iexact Hs
    isplitl [Hf]; · iexact Hf
    isplitl [H1]; · iexact H1
    isplitl [H2]; · iexact H2
    iexact H3
  · iexists ∅; iexact HO

/-- The one semaphore that belongs to no call is the barrier. -/
theorem unscopedSems0_eq (c : Dev nD) : (unscopedSems0 c : sProp 𝕄) = semVal (barC c) 0 := by
  unfold unscopedSems0
  rw [show (Finset.univ.filter fun sm : SemLoc sig => ¬ sm.isScoped .tc) = {SemLoc.reg (sig.barrier 0 rfl)} from by decide, BI.bigSep_singleton]

/-- From the launch, every device comes to hold what it needs before the first call. -/
theorem init (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barC c) 0 ∗ G c)) : sProp 𝕄) := by
    have hb : (unscopedBufs c (fun b => m ((c.tc : Thread nD τ).loc b)) : sProp 𝕄) ⊢ StableHlo.held (c.tc : Thread nD τ) (Pipeline.ucRefs τ sig) (V0 m c) :=
      Entails.of_eq (Pipeline.unscopedBufs_held (Ix := Unit) (Name := ℕ) (U := UU) (Lvl := ℕ) c (V0 m c))
    rw [unscopedSems0_eq]
    unfold bundle
    iintro ⟨Hh, Hus, HO, Hcr, Hp, HG⟩
    isplitl [Hh Hcr HO Hp]
    · isplitl [Hh]
      · iapply hb; iexact Hh
      isplitl [Hcr]
      · iapply (creds (F := F) c); iexact Hcr
      isplitl [HO]; · iexact HO
      iexists (ρ c); iexact Hp
    isplitl [Hus]; · iexact Hus
    iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 20 => openTok ER (dC c (6 + k.val))) :=
    Entails.of_eq (by
      unfold scCells
      rw [bigSep_map, bigSep_univ_prod]
      rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells scCells toks)) from
    Entails.of_eq (bigSep_onDev (F := F) 0 (BI.own (ER (launchOf barCells scCells toks))))) $$ HG
  imod (Rounds.fund_launch ER (Rd m) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr
    · iapply (invs_of m κ); iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (dealt_paid (F := F))
    iapply (toks_dealt (F := F)) $$ Htok
  · iexact HB

/-- A semaphore that belongs to no call is the barrier. -/
theorem unscoped_eq : ∀ sm : SemLoc sig, sm.isScoped .tc = false → sm = .reg (sig.barrier 0 rfl) := by decide

/-! ## The run -/

set_option backward.isDefEq.respectTransparency.types false in
/-- From any memory, every run of the program ends; then the arguments are as they were, the result holds `OUT`, and every
    semaphore is at zero. -/
theorem run_main (ρ : Dev nD → PrngReg) : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1))
        ∧ r.2.mem ((c.tc : Thread nD τ).loc main_v2) = OUT m c) ∧ r.2.sem = fun _ => 0) :=
  Pipeline.θ_run_regions_kit_sems (pcfgs (F := F)) adm (pdats m) () cellOf_inj EP defs₀ 𝒱₀ L lv m ρ main
    [.region (reg0 m), .region (reg1 m)]
    (fun c Q => by rw [main_segs adm (pdats m) () 𝒱₀ L lv (reg0 m) (reg1 m) c])
    (by simp only [Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨first m, second m, last m⟩)
    (hinit := init m ρ)
    (QY := fun c s => ((s.mem ((c.tc : Thread nD τ).loc main_arg0) = m ((c.tc : Thread nD τ).loc main_arg0)
        ∧ s.mem ((c.tc : Thread nD τ).loc main_arg1) = m ((c.tc : Thread nD τ).loc main_arg1))
        ∧ s.mem ((c.tc : Thread nD τ).loc main_v2) = OUT m c) ∧ s.sem (barC c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (Vend m c) s') $$ [Hh HSI]
      · isplitl [Hh] <;> iassumption
      icases Hr with ⟨%h, HSI⟩
      imodintro
      isplitr
      · ipureintro
        exact ⟨⟨⟨(h (Proc.devRef .tc main_arg0) (Finset.mem_filter.mpr ⟨StableHlo.devRef_mem_tcRefs main_arg0, by decide⟩)).trans (Vend_arg0 m c),
            (h (Proc.devRef .tc main_arg1) (Finset.mem_filter.mpr ⟨StableHlo.devRef_mem_tcRefs main_arg1, by decide⟩)).trans (Vend_arg1 m c)⟩,
            (h (Proc.devRef .tc main_v2) (Finset.mem_filter.mpr ⟨StableHlo.devRef_mem_tcRefs main_v2, by decide⟩)).trans (Vend_out m c)⟩,
          by simpa using hb⟩
      iexact HSI)
    (hQ := fun s h hs => ⟨fun c => (h c).1,
      sem_eq_zero hs fun c sm hsm => by
        obtain rfl := unscoped_eq sm hsm
        exact (h c).2⟩)

end Cert.KernelIdeal.Run
-- ==== Proof.Same.lean ====
module

public import proofs.«01_k».proof.Proof.Gen.Kernel
public import proofs.«01_k».proof.Proof.Gen.KernelIdeal

@[expose] public section

/-!
# The kernel and its ideal reading are one program

The two differ only in the numbers they are read over, so a run of the one is a run of the other.
-/

noncomputable section

namespace Cert.Same

open Idealize.ShloMosaic Idealize.SL.Sem

variable {F : FTy → Type} [FloatOps F]

/-- The two tables of kernel bodies are the same. -/
theorem bodies : Cert.Kernel.defs₀ (F := F) = Cert.KernelIdeal.defs₀ (F := F) := by
  unfold Cert.Kernel.defs₀ Cert.KernelIdeal.defs₀
  refine congrArg Defs.onTc (funext fun ℓ => funext fun a => ?_)
  obtain ⟨ℓ, hℓ⟩ := ℓ
  obtain _ | _ | ℓ := ℓ
  · rfl
  · rfl
  · exact absurd hℓ (Nat.not_lt.2 (Nat.le_add_left _ _))

/-- The two tables with the calls' pipelines are the same. -/
theorem tables : Cert.Kernel.defs (F := F) = Cert.KernelIdeal.defs (F := F) := by
  unfold Cert.Kernel.defs Cert.KernelIdeal.defs
  exact congrArg _ bodies

/-- The two programs run by every device are the same. -/
theorem mains : Cert.Kernel.main (F := F) = Cert.KernelIdeal.main (F := F) := rfl

/-- The two programs have the same runs. -/
theorem runs : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) :=
  congrArg₂ (fun d p => θ_run d (onTc (τ := Cert.KernelIdeal.τ) p)) tables mains

end Cert.Same
-- ==== Proof.Rowmath.lean ====
module

public import Idealize.ShloMosaic.PureOps.Ideal.Laws
public import Idealize.ShloMosaic.Lib.ValueIdxCore

@[expose] public section

/-!
# A row of the softmax over the extended reals

A row of 16384 numbers is taken in two halves of 8192 columns. The maximum of the row is the
larger of the two halves' maxima and the sum of the row is the sum of the two halves' sums,
whichever half is named first.
-/

noncomputable section

namespace Cert.Rowmath

open Idealize.ShloMosaic
open scoped BigOperators

/-- Column `b` of half `z`. -/
def col (z : ℕ) (b : Fin 8192) : Fin 16384 := ⟨(8192 * z + b.val) % 16384, Nat.mod_lt _ (by decide)⟩

/-- The number a maximum starts from. -/
def bot : EReal := FloatOps.ofBits (F := Ideal) .f32 0xFF800000#32

/-- The maximum of a row. -/
def rmax {n : ℕ} (f : Fin n → EReal) : EReal := (Finset.univ : Finset (Fin n)).fold max bot f

/-- The shifted exponentials of a row. -/
def ex (M : EReal) {n : ℕ} (f : Fin n → EReal) (j : Fin n) : EReal := Ideal.exp (f j - M)

/-- The softmax of a row. -/
def sm {n : ℕ} (f : Fin n → EReal) (j : Fin n) : EReal :=
  Ideal.div (ex (rmax f) f j) (∑ k, ex (rmax f) f k)

/-- Every column lies in one half or the other. -/
theorem col_surj (z : ℕ) (hz : z < 2) (j : Fin 16384) :
    (∃ b, j = col z b) ∨ ∃ b, j = col (1 - z) b := by
  have hj := j.isLt
  by_cases h : j.val / 8192 = z
  · refine Or.inl ⟨⟨j.val % 8192, by omega⟩, Fin.ext ?_⟩
    show j.val = (8192 * z + j.val % 8192) % 16384
    omega
  · refine Or.inr ⟨⟨j.val % 8192, by omega⟩, Fin.ext ?_⟩
    show j.val = (8192 * (1 - z) + j.val % 8192) % 16384
    omega

/-- The sum of a row is the sum over its lower half plus the sum over its upper half. -/
theorem sum_lower_upper (f : Fin 16384 → EReal) :
    ∑ j, f j = ∑ b, f (col 0 b) + ∑ b, f (col 1 b) := by
  have h : ∑ j : Fin (8192 + 8192), f j
      = ∑ b : Fin 8192, f (Fin.castAdd 8192 b) + ∑ b : Fin 8192, f (Fin.natAdd 8192 b) :=
    Fin.sum_univ_add _
  have h₀ : ∀ b : Fin 8192, (Fin.castAdd 8192 b : Fin 16384) = col 0 b := fun b => by
    refine Fin.ext ?_
    show b.val = (8192 * 0 + b.val) % 16384
    have := b.isLt
    omega
  have h₁ : ∀ b : Fin 8192, (Fin.natAdd 8192 b : Fin 16384) = col 1 b := fun b => by
    refine Fin.ext ?_
    show 8192 + b.val = (8192 * 1 + b.val) % 16384
    have := b.isLt
    omega
  refine h.trans ?_
  exact congrArg₂ (· + ·) (Finset.sum_congr rfl fun b _ => congrArg f (h₀ b))
    (Finset.sum_congr rfl fun b _ => congrArg f (h₁ b))

/-- The sum of a row is the sum of its halves' sums, in either order. -/
theorem sum_halves (z : ℕ) (hz : z < 2) (f : Fin 16384 → EReal) :
    ∑ j, f j = ∑ b, f (col z b) + ∑ b, f (col (1 - z) b) := by
  obtain rfl | rfl : z = 0 ∨ z = 1 := by omega
  · exact sum_lower_upper f
  · rw [sum_lower_upper f, add_comm]

/-- The maximum of a row is the larger of its halves' maxima. -/
theorem rmax_halves (z : ℕ) (hz : z < 2) (f : Fin 16384 → EReal) :
    rmax f = max (rmax fun b => f (col z b)) (rmax fun b => f (col (1 - z) b)) := by
  refine le_antisymm ?_ (max_le ?_ ?_)
  · refine (Finset.fold_max_le _).2 ⟨?_, fun j _ => ?_⟩
    · exact le_max_of_le_left ((Finset.le_fold_max _).2 (Or.inl le_rfl))
    · obtain ⟨b, rfl⟩ | ⟨b, rfl⟩ := col_surj z hz j
      · exact le_max_of_le_left ((Finset.le_fold_max _).2 (Or.inr ⟨b, Finset.mem_univ _, le_rfl⟩))
      · exact le_max_of_le_right ((Finset.le_fold_max _).2 (Or.inr ⟨b, Finset.mem_univ _, le_rfl⟩))
  · refine (Finset.fold_max_le _).2 ⟨(Finset.le_fold_max _).2 (Or.inl le_rfl), fun b _ => ?_⟩
    exact (Finset.le_fold_max _).2 (Or.inr ⟨_, Finset.mem_univ _, le_rfl⟩)
  · refine (Finset.fold_max_le _).2 ⟨(Finset.le_fold_max _).2 (Or.inl le_rfl), fun b _ => ?_⟩
    exact (Finset.le_fold_max _).2 (Or.inr ⟨_, Finset.mem_univ _, le_rfl⟩)

/-- The softmax of a row at a column of one half, from the two halves. -/
theorem sm_halves (z : ℕ) (hz : z < 2) (f : Fin 16384 → EReal) (j : Fin 16384) :
    sm f j = Ideal.div
      (Ideal.exp (f j - max (rmax fun b => f (col z b)) (rmax fun b => f (col (1 - z) b))))
      (∑ b, Ideal.exp (f (col z b) - max (rmax fun b => f (col z b)) (rmax fun b => f (col (1 - z) b)))
        + ∑ b, Ideal.exp (f (col (1 - z) b)
          - max (rmax fun b => f (col z b)) (rmax fun b => f (col (1 - z) b)))) := by
  unfold sm
  rw [sum_halves z hz, rmax_halves z hz]
  rfl

/-- The product of two matrices at a row and a column. -/
def mm (x : (⟨2, ![2048, 4096]⟩ : Shape).Idx → EReal) (w : (⟨2, ![4096, 16384]⟩ : Shape).Idx → EReal)
    (a : Fin 2048) (b : Fin 16384) : EReal :=
  ∑ k : Fin 4096, x (ValueIdx.ix2 a k) * w (ValueIdx.ix2 k b)

end Cert.Rowmath
-- ==== Proof.KValue.lean ====
module

public import proofs.«01_k».proof.Proof.Softmax
public import proofs.«01_k».proof.Proof.Rowmath
public import Idealize.ShloMosaic.Lib.MatmulPlain
public import Idealize.ShloMosaic.Lib.Pipeline.Value

@[expose] public section

/-!
# The kernel's result over the extended reals

The result at a row and a column is the softmax of that row of the product of the two matrices.
-/

noncomputable section

namespace Cert.KernelIdeal.Run

open Cert.KernelIdeal Cert.KernelIdeal.Gen Cert.Rowmath
open Idealize.ShloMosaic Idealize.ShloMosaic.TcCoe
open scoped BigOperators

/-- A column of one number per row, at a row. -/
theorem column_at (t : S128.Idx → EReal) (r : Fin 128) :
    shapeCast S128x1 t shapeCasts_S128_S128x1 (ValueIdx.ix2 r (0 : Fin 1)) = t (ValueIdx.ix1 r) := by
  refine shapeCast_apply t _ (ValueIdx.ix2 r (0 : Fin 1)) (ValueIdx.ix1 r) ?_
  rw [Shape.rowMajor_val_one, Shape.rowMajor_val_two]
  show r.val = r.val * 1 + 0
  omega

/-- A column of one number per row, repeated along the row, at an index. -/
theorem spread_at (t : S128x1.Idx → EReal) (r : Fin 128) (b : Fin 8192) :
    broadcastTo S128x8192 t broadcasts_S128x1_S128x8192 (ValueIdx.ix2 r b)
      = t (ValueIdx.ix2 r (0 : Fin 1)) :=
  broadcastTo_apply _ _ (ValueIdx.ix2 r b) (ValueIdx.ix2 r (0 : Fin 1))
    (fun a => by match a with | ⟨0, _⟩ => rfl | ⟨1, _⟩ => rfl)

/-- The row maximum of a half. -/
theorem rowmax_at (t : FVec Ideal S128x8192 .f32) (r : Fin 128) :
    multiReduction .maximumf [1] S128 t 0xFF800000#32 reduces_S128x8192_S128 (.inl rfl) rfl (ValueIdx.ix1 r)
      = rmax fun b => t (ValueIdx.ix2 r b) := by
  refine (Ideal.multiReduction_maximumf_single (s := S128x8192) (t := S128) (a := (1 : Fin 2)) t _ _ _ _ _).trans ?_
  refine congrArg (fun h => Finset.fold max bot h Finset.univ) (funext fun b => congrArg t ?_)
  exact idx2_ext rfl rfl

/-- The row sum of a half. -/
theorem rowsum_at (t : FVec Ideal S128x8192 .f32) (r : Fin 128) :
    multiReduction .add [1] S128 t 0x00000000#32 reduces_S128x8192_S128 (.inl rfl) rfl (ValueIdx.ix1 r)
      = ∑ b : Fin 8192, t (ValueIdx.ix2 r b) := by
  refine (Ideal.multiReduction_add_single (s := S128x8192) (t := S128) (a := (1 : Fin 2)) t _ _ _ _ _).trans ?_
  exact Finset.sum_congr rfl fun b _ => congrArg t (idx2_ext rfl rfl)

section Halves

variable (v w : S128x8192.Idx → EReal)

/-- Over the extended reals the first widening changes nothing. -/
theorem pay1_eq : k1_pay1 (F := Ideal) v = v :=
  shapeCast_self (s := S128x8192) v _

/-- Nor does the second. -/
theorem pay2_eq : k1_pay2 (F := Ideal) w = w :=
  shapeCast_self (s := S128x8192) w _

/-- The larger of the two halves' maxima of a row. -/
def mx (r : Fin 128) : EReal :=
  max (rmax fun b => v (ValueIdx.ix2 r b)) (rmax fun b => w (ValueIdx.ix2 r b))

/-- The kernel's row maximum. -/
theorem pay3_at (r : Fin 128) : k1_pay3 (F := Ideal) v w (ValueIdx.ix2 r (0 : Fin 1)) = mx v w r := by
  refine congrArg₂ max ?_ ?_
  · refine (column_at _ r).trans ((rowmax_at _ r).trans ?_)
    rw [pay1_eq]
  · refine (column_at _ r).trans ((rowmax_at _ r).trans ?_)
    rw [pay2_eq]

/-- The kernel's shifted exponentials of the first half. -/
theorem pay4_at (r : Fin 128) (b : Fin 8192) :
    k1_pay4 (F := Ideal) v w (ValueIdx.ix2 r b) = Ideal.exp (v (ValueIdx.ix2 r b) - mx v w r) := by
  refine congrArg Ideal.exp (congrArg₂ (· - ·) ?_ ((spread_at _ r b).trans (pay3_at v w r)))
  exact congrFun (pay1_eq v) _

/-- The kernel's shifted exponentials of the second half. -/
theorem pay5_at (r : Fin 128) (b : Fin 8192) :
    k1_pay5 (F := Ideal) v w (ValueIdx.ix2 r b) = Ideal.exp (w (ValueIdx.ix2 r b) - mx v w r) := by
  refine congrArg Ideal.exp (congrArg₂ (· - ·) ?_ ((spread_at _ r b).trans (pay3_at v w r)))
  exact congrFun (pay2_eq w) _

/-- The kernel's row sum. -/
theorem pay6_at (r : Fin 128) : k1_pay6 (F := Ideal) v w (ValueIdx.ix2 r (0 : Fin 1))
    = ∑ b, Ideal.exp (v (ValueIdx.ix2 r b) - mx v w r)
      + ∑ b, Ideal.exp (w (ValueIdx.ix2 r b) - mx v w r) := by
  refine congrArg₂ (· + ·) ?_ ?_
  · exact (column_at _ r).trans ((rowsum_at _ r).trans
      (Finset.sum_congr rfl fun b _ => pay4_at v w r b))
  · exact (column_at _ r).trans ((rowsum_at _ r).trans
      (Finset.sum_congr rfl fun b _ => pay5_at v w r b))

/-- If the two operands are the two halves of a row, the first quotient is the row's softmax on the
first half. -/
theorem pay7_at (r : Fin 128) (f : Fin 16384 → EReal) (z : ℕ) (hz : z < 2)
    (hv : ∀ b, v (ValueIdx.ix2 r b) = f (col z b)) (hw : ∀ b, w (ValueIdx.ix2 r b) = f (col (1 - z) b))
    (b : Fin 8192) : k1_pay7 (F := Ideal) v w (ValueIdx.ix2 r b) = sm f (col z b) := by
  have e : k1_pay7 (F := Ideal) v w (ValueIdx.ix2 r b) = FloatOps.divf (F := Ideal) (φ := .f32)
      (k1_pay4 (F := Ideal) v w (ValueIdx.ix2 r b))
      (broadcastTo S128x8192 (k1_pay6 (F := Ideal) v w) broadcasts_S128x1_S128x8192 (ValueIdx.ix2 r b)) := by
    unfold k1_pay7
    rfl
  refine e.trans ((Ideal.divf_def _ _).trans ?_)
  rw [pay4_at, spread_at, pay6_at]
  rw [sm_halves z hz f]
  simp only [mx, hv, hw]

/-- And the second quotient is the row's softmax on the second half. -/
theorem pay8_at (r : Fin 128) (f : Fin 16384 → EReal) (z : ℕ) (hz : z < 2)
    (hv : ∀ b, v (ValueIdx.ix2 r b) = f (col z b)) (hw : ∀ b, w (ValueIdx.ix2 r b) = f (col (1 - z) b))
    (b : Fin 8192) : k1_pay8 (F := Ideal) v w (ValueIdx.ix2 r b) = sm f (col (1 - z) b) := by
  have e : k1_pay8 (F := Ideal) v w (ValueIdx.ix2 r b) = FloatOps.divf (F := Ideal) (φ := .f32)
      (k1_pay5 (F := Ideal) v w (ValueIdx.ix2 r b))
      (broadcastTo S128x8192 (k1_pay6 (F := Ideal) v w) broadcasts_S128x1_S128x8192 (ValueIdx.ix2 r b)) := by
    unfold k1_pay8
    rfl
  refine e.trans ((Ideal.divf_def _ _).trans ?_)
  rw [pay5_at, spread_at, pay6_at]
  rw [sm_halves z hz f]
  simp only [mx, hv, hw]

end Halves

/-! ## The product -/

/-- One 512 by 512 block of the product, at an index. -/
theorem block_at (x : S512x4096.Idx → EReal) (w : S4096x512.Idx → EReal) (a b : Fin 512) :
    k0_pay3 (F := Ideal) x w (ValueIdx.ix2 a b)
      = ∑ k : Fin 4096, x (ValueIdx.ix2 a k) * w (ValueIdx.ix2 k b) := by
  have hx : shapeCast S512x4096 x shapeCasts_S512x4096_S512x4096 = x := shapeCast_self (s := S512x4096) x _
  have hw : shapeCast S4096x512 w shapeCasts_S4096x512_S4096x512 = w := shapeCast_self (s := S4096x512) w _
  refine (Ideal.matmul_plain_apply (M := 512) (K := 4096) (N := 512) none
    (shapeCast S512x4096 x shapeCasts_S512x4096_S512x4096)
    (shapeCast S4096x512 w shapeCasts_S4096x512_S4096x512)
    (constant (F := Ideal) S512x512 .f32 0x00000000#32) a b).trans ?_
  rw [hx, hw]
  refine (congrArg (· + _) ?_).trans (zero_add _)
  exact Ideal.ofBits_zero_f32

variable (m : (ℓ : Loc nD τ sig) → Buf (Elt Ideal) ℓ)
variable (X : S2048x4096.Idx → EReal) (W : (⟨2, ![4096, 16384]⟩ : Shape).Idx → EReal)

/-- A device holds the whole of the first matrix and its half of the columns of the second. -/
def Holds (c : Dev nD) : Prop :=
  (∀ y, m ((c.tc : Thread nD τ).loc main_arg0) y = X y) ∧
    ∀ (k : Fin 4096) (b : Fin 8192), m ((c.tc : Thread nD τ).loc main_arg1) (ValueIdx.ix2 k b)
      = W (ValueIdx.ix2 k (col (c.val % 2) b))

/-- A device's half of the product. -/
theorem LOC_at (c : Dev nD) (h : Holds m X W c) (a : Fin 2048) (b : Fin 8192) :
    LOC m c (ValueIdx.ix2 a b) = mm X W a (col (c.val % 2) b) := by
  have ha := a.isLt
  have hb := b.isLt
  have e : (at2 (by decide) (by decide) a.val b.val : S512x512.Idx)
      = ValueIdx.ix2 ⟨a.val % 512, by omega⟩ ⟨b.val % 512, by omega⟩ := idx2_ext rfl rfl
  show prod m c (a.val / 512) (b.val / 512) (at2 (by decide) (by decide) a.val b.val) = _
  rw [e]
  refine (block_at _ _ _ _).trans ?_
  refine Finset.sum_congr rfl fun k _ => congrArg₂ (· * ·) ?_ ?_
  · refine (h.1 _).trans (congrArg X (idx2_ext ?_ ?_))
    · show (512 * (a.val / 512) + a.val % 512) % 2048 = a.val
      omega
    · show k.val % 4096 = k.val
      have := k.isLt
      omega
  · refine Eq.trans ?_ (h.2 k b)
    refine congrArg (m ((c.tc : Thread nD τ).loc main_arg1)) (idx2_ext ?_ ?_)
    · show k.val % 4096 = k.val
      have := k.isLt
      omega
    · show (512 * (b.val / 512) + b.val % 512) % 8192 = b.val
      omega

/-- The half a device receives. -/
theorem RECV_at (h : ∀ c, Holds m X W c) (c : Dev nD) (a : Fin 2048) (b : Fin 8192) :
    RECV m c (ValueIdx.ix2 a b) = mm X W a (col (1 - c.val % 2) b) := by
  have h₁ : (zp c).val % 2 = 1 - c.val % 2 :=
    (by decide +kernel : ∀ c : Dev nD, (zp c).val % 2 = 1 - c.val % 2) c
  have h₂ : (zp (xp c)).val % 2 = 1 - c.val % 2 :=
    (by decide +kernel : ∀ c : Dev nD, (zp (xp c)).val % 2 = 1 - c.val % 2) c
  unfold RECV
  split
  · rw [LOC_at m X W _ (h _), h₁]
  · rw [LOC_at m X W _ (h _), h₂]

/-- The kernel's result, at an index, is the softmax of the row of the product. -/
theorem OUT_at (h : ∀ c, Holds m X W c) (c : Dev nD) (a : Fin 2048) (j : Fin 16384) :
    OUT m c (ValueIdx.ix2 a j) = sm (mm X W a) j := by
  have ha := a.isLt
  have hj := j.isLt
  have hz : c.val % 2 < 2 := Nat.mod_lt _ (by decide)
  have hv : ∀ b, rows (LOC m c) (a.val / 128) (ValueIdx.ix2 ⟨a.val % 128, by omega⟩ b)
      = mm X W a (col (c.val % 2) b) := fun b => by
    refine Eq.trans ?_ (LOC_at m X W c (h c) a b)
    refine congrArg (LOC m c) (idx2_ext ?_ ?_)
    · show (128 * (a.val / 128) + a.val % 128) % 2048 = a.val
      omega
    · exact Nat.mod_eq_of_lt b.isLt
  have hw : ∀ b, rows (RECV m c) (a.val / 128) (ValueIdx.ix2 ⟨a.val % 128, by omega⟩ b)
      = mm X W a (col (1 - c.val % 2) b) := fun b => by
    refine Eq.trans ?_ (RECV_at m X W h c a b)
    refine congrArg (RECV m c) (idx2_ext ?_ ?_)
    · show (128 * (a.val / 128) + a.val % 128) % 2048 = a.val
      omega
    · exact Nat.mod_eq_of_lt b.isLt
  have e : (at2 (by decide) (by decide) (a.val % 128) (j.val % 16384) : S128x8192.Idx)
      = ValueIdx.ix2 ⟨a.val % 128, by omega⟩ ⟨j.val % 8192, by omega⟩ := by
    refine idx2_ext ?_ ?_
    · show a.val % 128 % 128 = a.val % 128
      omega
    · show j.val % 16384 % 8192 = j.val % 8192
      omega
  show (if j.val % 16384 / 8192 = c.val % 2
    then k1_pay7 (rows (LOC m c) (a.val / 128)) (rows (RECV m c) (a.val / 128))
      (at2 (by decide) (by decide) (a.val % 128) (j.val % 16384))
    else k1_pay8 (rows (LOC m c) (a.val / 128)) (rows (RECV m c) (a.val / 128))
      (at2 (by decide) (by decide) (a.val % 128) (j.val % 16384))) = _
  rw [e]
  split
  · refine (pay7_at _ _ _ (mm X W a) (c.val % 2) hz hv hw _).trans (congrArg _ (Fin.ext ?_))
    show (8192 * (c.val % 2) + j.val % 8192) % 16384 = j.val
    omega
  · refine (pay8_at _ _ _ (mm X W a) (c.val % 2) hz hv hw _).trans (congrArg _ (Fin.ext ?_))
    show (8192 * (1 - c.val % 2) + j.val % 8192) % 16384 = j.val
    omega

end Cert.KernelIdeal.Run
-- ==== Proof.RValue.lean ====
module

public import proofs.«01_k».proof.ReferenceIdeal
public import proofs.«01_k».proof.Proof.Gen.ReferenceIdeal
public import proofs.«01_k».proof.Proof.Rowmath
public import Idealize.ShloMosaic.Lib.StackMember
public import Idealize.ShloMosaic.Lib.Pipeline.Value

@[expose] public section

/-!
# The reference's result over the extended reals

The result at a row and a column is the softmax of that row of the product of the two matrices.
-/

noncomputable section

namespace Cert.ReferenceIdeal.Run

open Cert.ReferenceIdeal Cert.ReferenceIdeal.Gen Cert.Rowmath
open Idealize.ShloMosaic Idealize.ShloMosaic.StackMember
open scoped BigOperators

/-- One number per row, repeated along the row. -/
def spread (t : FVec Ideal S2048 .f32) : FVec Ideal S2048x16384 .f32 :=
  broadcastInDim S2048x16384 ![0, 1] Facts₀.bcast_S2048x1_S2048x16384_0_1
    (broadcastInDim S2048x1 ![0] Facts₀.bcast_S2048_S2048x1_0 t)

/-- It is that number at every column of the row. -/
theorem spread_at (t : FVec Ideal S2048 .f32) (a : Fin 2048) (j : Fin 16384) :
    spread t (ValueIdx.ix2 a j) = t (ValueIdx.ix1 a) := by
  refine (broadcastInDim_apply (s := S2048x1) (t := S2048x16384) ![0, 1] _ _ (ValueIdx.ix2 a j)
    (ValueIdx.ix2 a (0 : Fin 1)) (fun d => by match d with | ⟨0, _⟩ => rfl | ⟨1, _⟩ => rfl)).trans ?_
  exact broadcastInDim_apply (s := S2048) (t := S2048x1) ![0] _ t (ValueIdx.ix2 a (0 : Fin 1))
    (ValueIdx.ix1 a) (fun d => by match d with | ⟨0, _⟩ => rfl)

/-- A row's sources under the reduction along the columns. -/
theorem reduces_row : S2048x16384.Reduces [1] S2048 := by decide

/-- Two indices of the product with the same row and column are equal. -/
theorem idx_ext {p q : S2048x16384.Idx} (h₀ : (p 0).val = (q 0).val) (h₁ : (p 1).val = (q 1).val) :
    p = q := by
  funext d
  match d with
  | ⟨0, _⟩ => exact Fin.ext h₀
  | ⟨1, _⟩ => exact Fin.ext h₁

/-- The reference's row maxima. -/
def maxima (t : FVec Ideal S2048x16384 .f32) : FVec Ideal S2048 .f32 :=
  Host.reduce FloatOps.maximumf t (constant (F := Ideal) S_ .f32 0xFF800000#32)
    Facts₀.reducesTo_S2048x16384_S2048_d1 Facts₀.h_S_

/-- A row's maximum. -/
theorem maxima_at (t : FVec Ideal S2048x16384 .f32) (a : Fin 2048) :
    maxima t (ValueIdx.ix1 a) = rmax fun j => t (ValueIdx.ix2 a j) := by
  refine (Host.reduce_eq_fold_single (s := S2048x16384) (t := S2048) (a := (1 : Fin 2)) (α := EReal)
    max t _ _ reduces_row _ (ValueIdx.ix1 a)).trans ?_
  exact congrArg (fun h => Finset.fold max bot h Finset.univ)
    (funext fun j => congrArg t (idx_ext rfl rfl))

/-- The reference's row sums. -/
def sums (t : FVec Ideal S2048x16384 .f32) : FVec Ideal S2048 .f32 :=
  Host.reduceAdd t (constant (F := Ideal) S_ .f32 0x00000000#32)
    Facts₀.reducesTo_S2048x16384_S2048_d1 Facts₀.h_S_

/-- A row's sum. -/
theorem sums_at (t : FVec Ideal S2048x16384 .f32) (a : Fin 2048) :
    sums t (ValueIdx.ix1 a) = ∑ j : Fin 16384, t (ValueIdx.ix2 a j) := by
  refine (Ideal.hostReduceAdd_single (s := S2048x16384) (t := S2048) (a := (1 : Fin 2))
    _ reduces_row t _ (ValueIdx.ix1 a)).trans ?_
  refine (congrArg (· + _) Ideal.ofBits_zero_f32).trans ((zero_add _).trans ?_)
  exact Finset.sum_congr rfl fun j _ => congrArg t (idx_ext rfl rfl)

variable (X : FVec Ideal S2048x4096 .f32) (W : FVec Ideal S4096x16384 .f32)

/-- The product. -/
def product : FVec Ideal S2048x16384 .f32 :=
  Host.dotGeneral dot_S2048x4096_S4096x16384_S2048x16384_1_0_0_1_n_n none X W

/-- The product at an index. -/
theorem product_at (a : Fin 2048) (j : Fin 16384) : product X W (ValueIdx.ix2 a j) = mm X W a j :=
  dotGeneral_plain_apply (m := 2048) (k := 4096) (n := 16384) none X W a j

/-- The shifted exponentials. -/
def shifted : FVec Ideal S2048x16384 .f32 := Host.exp (subf (product X W) (spread (maxima (product X W))))

/-- The shifted exponentials at an index. -/
theorem shifted_at (a : Fin 2048) (j : Fin 16384) :
    shifted X W (ValueIdx.ix2 a j) = ex (rmax (mm X W a)) (mm X W a) j := by
  refine congrArg Ideal.exp (congrArg₂ (· - ·) (product_at X W a j) ?_)
  refine (spread_at _ a j).trans ((maxima_at _ a).trans ?_)
  exact congrArg rmax (funext fun j => product_at X W a j)

/-- The reference's result. -/
def result : FVec Ideal S2048x16384 .f32 := Host.divf (shifted X W) (spread (sums (shifted X W)))

/-- The reference's result at an index. -/
theorem result_at (a : Fin 2048) (j : Fin 16384) :
    result X W (ValueIdx.ix2 a j) = sm (mm X W a) j := by
  have e : result X W (ValueIdx.ix2 a j) = FloatOps.hostDivf (F := Ideal) (φ := .f32)
      (shifted X W (ValueIdx.ix2 a j)) (spread (sums (shifted X W)) (ValueIdx.ix2 a j)) := by
    unfold result
    rfl
  refine e.trans ((Ideal.hostDivf_def _ _).trans ?_)
  rw [shifted_at, spread_at, sums_at]
  unfold sm
  refine congrArg (Ideal.div _) (Finset.sum_congr rfl fun k _ => shifted_at X W a k)

end Cert.ReferenceIdeal.Run
-- ==== Proof.lean ====
/- The kernel runs on every device, leaves its arguments and every counter as it found them, and over
   the extended reals ends with the reference's result on every device. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Same
public import proofs.«01_k».proof.Proof.KValue
public import proofs.«01_k».proof.Proof.RValue
public import Idealize.ShloMosaic.Lib.Claim

@[expose] public section

noncomputable section

namespace Cert.Proof

open Idealize.ShloMosaic Idealize.SL.Sem

/-- The kernel over the extended reals runs and leaves its arguments and counters as they were. -/
theorem frame_ideal : Cert.quiescent_KernelIdeal := fun m g _ =>
  θ_run_mono (Cert.KernelIdeal.Run.run_main (F := Ideal) m g)
    fun _ h => ⟨fun c => (h.1 c).1, h.2⟩

/-- So does the kernel over the machine's own numbers: the same program. -/
theorem frame_kernel : Cert.quiescent_Kernel := by
  intro m g _
  rw [Cert.Same.runs]
  exact θ_run_mono (Cert.KernelIdeal.Run.run_main (F := Bits) m g)
    fun _ h => ⟨fun c => (h.1 c).1, h.2⟩

/-- So does the reference. -/
theorem frame_reference : Cert.quiescent_ReferenceIdeal := by
  intro m g _
  hlo_run
  · exact fun _ => ⟨trivial, trivial⟩
  · exact sem_eq_zero_of_no_sems (by decide) _

/-- The column block a device holds of the second matrix. -/
theorem block_col (c : Dev Cert.KernelIdeal.nD) :
    Layout.meshLin [2, 2, 2] c.val [2] = c.val % 2 :=
  (by decide +kernel : ∀ c : Dev Cert.KernelIdeal.nD, Layout.meshLin [2, 2, 2] c.val [2] = c.val % 2) c

/-- On every device the kernel ends with the reference's result. -/
theorem same_value : Cert.algebraic_KernelIdeal_ReferenceIdeal := by
  intro m g m' g' _ hagree
  let X := m' (((0 : Dev Cert.ReferenceIdeal.nD).tc : Thread Cert.ReferenceIdeal.nD Cert.ReferenceIdeal.τ).loc
    Cert.ReferenceIdeal.main_arg0)
  let W := m' (((0 : Dev Cert.ReferenceIdeal.nD).tc : Thread Cert.ReferenceIdeal.nD Cert.ReferenceIdeal.τ).loc
    Cert.ReferenceIdeal.main_arg1)
  have holds : ∀ c, Cert.KernelIdeal.Run.Holds m X W c := fun c => by
    refine ⟨fun y => congrFun (hagree c).1 y, fun k b => ?_⟩
    refine (congrFun (hagree c).2 (ValueIdx.ix2 k b)).trans ?_
    refine congrArg W (Cert.KernelIdeal.Run.idx2_ext ?_ ?_)
    · show 0 * 4096 + k.val = k.val
      omega
    · show Layout.meshLin [2, 2, 2] c.val [2] * 8192 + b.val = (8192 * (c.val % 2) + b.val) % 16384
      rw [block_col]
      have := b.isLt
      omega
  have same : ∀ c, Cert.KernelIdeal.Run.OUT m c = Cert.ReferenceIdeal.Run.result X W := fun c => by
    funext z
    rw [ValueIdx.eq_ix2 z]
    exact (Cert.KernelIdeal.Run.OUT_at m X W holds c _ _).trans
      (Cert.ReferenceIdeal.Run.result_at X W _ _).symm
  refine ⟨Cert.ReferenceIdeal.Run.result X W, ?_, ?_⟩
  · exact θ_run_mono (Cert.KernelIdeal.Run.run_main (F := Ideal) m g)
      fun _ h c => ⟨((h.1 c).2).trans (same c), (h.1 c).1⟩
  · hlo_run
    rfl

/-- The claim. -/
theorem claim : Cert.Claim :=
  ⟨Cert.Kernel.Gen.facts, Cert.KernelIdeal.Gen.facts, Cert.ReferenceIdeal.Gen.facts,
    frame_kernel, frame_ideal, frame_reference, trivial, same_value⟩

end Cert.Proof

end
